-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "q" .bf16 0x41A9#16 ((127 / 6 : ℝ) : EReal)
  ∧ IdealRules.named_const.Statement Cert.KernelIdeal.κ "dq" .f32 0x3D418306#32 ((6 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def holds_ReferenceIdeal_near_sum [hReferenceIdeal : Cert.ReferenceIdeal.Facts] [hPost_near_sum : Cert.Post_near_sum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ (Cert.Post_near_sum.fn (F := Ideal) (m ((c.tc : Thread Cert.ReferenceIdeal.nD Cert.ReferenceIdeal.τ).loc Cert.ReferenceIdeal.main_arg0)) (r.2.mem ((c.tc : Thread Cert.ReferenceIdeal.nD Cert.ReferenceIdeal.τ).loc Cert.ReferenceIdeal.main_v26))) = (fun _ => 1#1))

def Claim : Prop :=
  ∃ (hKernel : Cert.Kernel.Facts) (hKernelIdeal : Cert.KernelIdeal.Facts) (hReferenceIdeal : Cert.ReferenceIdeal.Facts) (hPost_near_sum : Cert.Post_near_sum.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_ReferenceIdeal_near_sum (hReferenceIdeal := hReferenceIdeal) (hPost_near_sum := hPost_near_sum)
-- ==== Post_near_sum.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

class Facts : Prop where
  bitsLt_bf16_f32 : FTy.bits .bf16 < FTy.bits .f32
  slices_S2x1024x1024_S1x1024x1024_0_0_0 : S2x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  slices_S2x1024x1024_S1x1024x1024_1_0_0 : S2x1024x1024.Slices ![1, 0, 0] S1x1024x1024

variable [Facts]

def fn_part1 {F : FTy → Type} [FloatOps F] (main_v11 : IVec S1024x1024 1) (main_v19 : FVec F S1024x1024 .f32) (main_v20 : FVec F S1024x1024 .f32) : IVec S1024x1024 1 :=
  let main_v21 : IVec S1024x1024 1 := cmpf .ole main_v19 main_v20
  let main_v22 : IVec S1024x1024 1 := ori main_v11 main_v21
  main_v22

def fn {F : FTy → Type} [FloatOps F] (main_arg0 : FVec F S2x1024x1024 .bf16) (main_arg1 : FVec F S1024x1024 .bf16) : IVec S1024x1024 1 :=
  let main_v0 : FVec F S2x1024x1024 .f32 := (extf .f32 · bitsLt_bf16_f32) main_arg0
  let main_v1 : FVec F S1x1024x1024 .f32 := (extractStridedSlice S1x1024x1024 ![0, 0, 0] · slices_S2x1024x1024_S1x1024x1024_0_0_0) main_v0
  let main_v2 : FVec F S1024x1024 .f32 := shapeCast S1024x1024 main_v1 shapeCasts_S1x1024x1024_S1024x1024
  let main_v3 : FVec F S1024x1024 .f32 := Host.absf main_v2
  let main_cst : FVec F S_ .f32 := constant S_ .f32 0x40C00000#32
  let main_v4 : FVec F S1024x1024 .f32 := broadcastInDim S1024x1024 ![] bcast_S_S1024x1024 main_cst
  let main_v5 : IVec S1024x1024 1 := cmpf .ogt main_v3 main_v4
  let main_v6 : FVec F S1x1024x1024 .f32 := (extractStridedSlice S1x1024x1024 ![1, 0, 0] · slices_S2x1024x1024_S1x1024x1024_1_0_0) main_v0
  let main_v7 : FVec F S1024x1024 .f32 := shapeCast S1024x1024 main_v6 shapeCasts_S1x1024x1024_S1024x1024
  let main_v8 : FVec F S1024x1024 .f32 := Host.absf main_v7
  let main_cst_0 : FVec F S_ .f32 := constant S_ .f32 0x40C00000#32
  let main_v9 : FVec F S1024x1024 .f32 := broadcastInDim S1024x1024 ![] bcast_S_S1024x1024 main_cst_0
  let main_v10 : IVec S1024x1024 1 := cmpf .ogt main_v8 main_v9
  let main_v11 : IVec S1024x1024 1 := ori main_v5 main_v10
  let main_v12 : FVec F S1024x1024 .f32 := (extf .f32 · bitsLt_bf16_f32) main_arg1
  let main_v13 : FVec F S1x1024x1024 .f32 := (extractStridedSlice S1x1024x1024 ![0, 0, 0] · slices_S2x1024x1024_S1x1024x1024_0_0_0) main_v0
  let main_v14 : FVec F S1024x1024 .f32 := shapeCast S1024x1024 main_v13 shapeCasts_S1x1024x1024_S1024x1024
  let main_v15 : FVec F S1x1024x1024 .f32 := (extractStridedSlice S1x1024x1024 ![1, 0, 0] · slices_S2x1024x1024_S1x1024x1024_1_0_0) main_v0
  let main_v16 : FVec F S1024x1024 .f32 := shapeCast S1024x1024 main_v15 shapeCasts_S1x1024x1024_S1024x1024
  let main_v17 : FVec F S1024x1024 .f32 := addf main_v14 main_v16
  let main_v18 : FVec F S1024x1024 .f32 := subf main_v12 main_v17
  let main_v19 : FVec F S1024x1024 .f32 := Host.absf main_v18
  let main_cst_1 : FVec F S_ .f32 := constant S_ .f32 0x3CC193B4#32
  let main_v20 : FVec F S1024x1024 .f32 := broadcastInDim S1024x1024 ![] bcast_S_S1024x1024 main_cst_1
  fn_part1 (F := F) main_v11 main_v19 main_v20
-- ==== Kernel.lean ====
abbrev S1x1024x1024 : Shape := ⟨3, ![1, 1024, 1024]⟩
abbrev S1024x512 : Shape := ⟨2, ![1024, 512]⟩
abbrev S8x128x1024 : Shape := ⟨3, ![8, 128, 1024]⟩
abbrev S8x128x512 : Shape := ⟨3, ![8, 128, 512]⟩
abbrev S8 : Shape := ⟨1, ![8]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S128x512 : Shape := ⟨2, ![128, 512]⟩
abbrev S1x128x512 : Shape := ⟨3, ![1, 128, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x1024, .bf16⟩
  | .hbm, ⟨1, _⟩ => ⟨S1024x512, .bf16⟩
  | .local _ .vmem, ⟨0, _⟩ => ⟨S1024x512, .bf16⟩
  | .local _ .vmem, ⟨1, _⟩ => ⟨S8x128x1024, .bf16⟩
  | .local _ .vmem, ⟨2, _⟩ => ⟨S8x128x512, .i8⟩
  | .local _ .vmem, ⟨3, _⟩ => ⟨S8x128x512, .i8⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v59 : BitVec 32 := Scalar.muli v2 c8_i32_48
  let v60 : BitVec 32 := Scalar.addi c0_i32_49 v59
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_50 : BitVec 32 := 4#32
  let v61 : BitVec 32 := Scalar.muli v9 c4_i32_50
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v63 : BitVec 32 := Scalar.muli v8 c1_i32_51
  let v64 : BitVec 32 := Scalar.addi v62 v63
  v64.toNat
def k0_dev2 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v77 : BitVec 32 := Scalar.muli v2 c8_i32_68
  let v78 : BitVec 32 := Scalar.addi c0_i32_69 v77
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_70 : BitVec 32 := 4#32
  let v79 : BitVec 32 := Scalar.muli v9 c4_i32_70
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v81 : BitVec 32 := Scalar.muli v8 c1_i32_71
  let v82 : BitVec 32 := Scalar.addi v80 v81
  v82.toNat
def k0_dev3 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v103 : BitVec 32 := Scalar.muli v2 c8_i32_91
  let v104 : BitVec 32 := Scalar.addi c0_i32_92 v103
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_93 : BitVec 32 := 4#32
  let v105 : BitVec 32 := Scalar.muli v9 c4_i32_93
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v107 : BitVec 32 := Scalar.muli v8 c1_i32_94
  let v108 : BitVec 32 := Scalar.addi v106 v107
  v108.toNat
def k0_dev4 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_114 : BitVec 32 := 8#32
  let v129 : BitVec 32 := Scalar.muli v2 c8_i32_114
  let v130 : BitVec 32 := Scalar.addi c0_i32_115 v129
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_116 : BitVec 32 := 4#32
  let v131 : BitVec 32 := Scalar.muli v9 c4_i32_116
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v133 : BitVec 32 := Scalar.muli v8 c1_i32_117
  let v134 : BitVec 32 := Scalar.addi v132 v133
  v134.toNat
def k0_dev5 (d0 : Dev nD) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v155 : BitVec 32 := Scalar.muli v2 c8_i32_137
  let v156 : BitVec 32 := Scalar.addi c0_i32_138 v155
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_139 : BitVec 32 := 4#32
  let v157 : BitVec 32 := Scalar.muli v9 c4_i32_139
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v159 : BitVec 32 := Scalar.muli v8 c1_i32_140
  let v160 : BitVec 32 := Scalar.addi v158 v159
  v160.toNat
def k0_dev6 (d0 : Dev nD) : Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_160 : BitVec 32 := 8#32
  let v181 : BitVec 32 := Scalar.muli v2 c8_i32_160
  let v182 : BitVec 32 := Scalar.addi c0_i32_161 v181
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_162 : BitVec 32 := 4#32
  let v183 : BitVec 32 := Scalar.muli v9 c4_i32_162
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v185 : BitVec 32 := Scalar.muli v8 c1_i32_163
  let v186 : BitVec 32 := Scalar.addi v184 v185
  v186.toNat
def k0_dev7 (d0 : Dev nD) : Nat :=
  let c0_i32_184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_183 : BitVec 32 := 8#32
  let v207 : BitVec 32 := Scalar.muli v2 c8_i32_183
  let v208 : BitVec 32 := Scalar.addi c0_i32_184 v207
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_185 : BitVec 32 := 4#32
  let v209 : BitVec 32 := Scalar.muli v9 c4_i32_185
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v211 : BitVec 32 := Scalar.muli v8 c1_i32_186
  let v212 : BitVec 32 := Scalar.addi v210 v211
  v212.toNat
def k0_dev8 (d0 : Dev nD) : Nat :=
  let c0_i32_207 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_206 : BitVec 32 := 8#32
  let v233 : BitVec 32 := Scalar.muli v2 c8_i32_206
  let v234 : BitVec 32 := Scalar.addi c0_i32_207 v233
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_208 : BitVec 32 := 4#32
  let v235 : BitVec 32 := Scalar.muli v9 c4_i32_208
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v237 : BitVec 32 := Scalar.muli v8 c1_i32_209
  let v238 : BitVec 32 := Scalar.addi v236 v237
  v238.toNat
def k0_dev9 (d0 : Dev nD) : Nat :=
  let c0_i32_230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_229 : BitVec 32 := 8#32
  let v259 : BitVec 32 := Scalar.muli v2 c8_i32_229
  let v260 : BitVec 32 := Scalar.addi c0_i32_230 v259
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_231 : BitVec 32 := 4#32
  let v261 : BitVec 32 := Scalar.muli v9 c4_i32_231
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v263 : BitVec 32 := Scalar.muli v8 c1_i32_232
  let v264 : BitVec 32 := Scalar.addi v262 v263
  v264.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "dq" => some ((6 / 127 : ℝ) : EReal)
  | "q" => some ((127 / 6 : ℝ) : EReal)
  | _ => none
-- ==== ReferenceIdeal.lean ====
abbrev S2x1024x1024 : Shape := ⟨3, ![2, 1024, 1024]⟩
abbrev S_ : Shape := ⟨0, ![]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2x1024x1024, .f32⟩
  | .hbm, ⟨2, _⟩ => ⟨S_, .f32⟩
  | .hbm, ⟨3, _⟩ => ⟨S2x1024x1024, .f32⟩
  | .hbm, ⟨4, _⟩ => ⟨S2x1024x1024, .f32⟩
  | .hbm, ⟨5, _⟩ => ⟨S_, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S_, .f32⟩
  | .hbm, ⟨15, _⟩ => ⟨S2x1024x1024, .f32⟩
  | .hbm, ⟨16, _⟩ => ⟨S2x1024x1024, .f32⟩
  | .hbm, ⟨17, _⟩ => ⟨S2x1024x1024, .i32⟩
  | .hbm, ⟨18, _⟩ => ⟨S2x1024x1024, .i8⟩
  | .hbm, ⟨19, _⟩ => ⟨S2x1024x1024, .i32⟩
  | .hbm, ⟨20, _⟩ => ⟨S2x1024x1024, .f32⟩
  | .hbm, ⟨21, _⟩ => ⟨S_, .f32⟩
  | .hbm, ⟨22, _⟩ => ⟨S2x1024x1024, .f32⟩
  | .hbm, ⟨23, _⟩ => ⟨S2x1024x1024, .f32⟩
  | .hbm, ⟨24, _⟩ => ⟨S_, .f32⟩
  | .hbm, ⟨25, _⟩ => ⟨S2x1024x1024, .f32⟩
  | .hbm, ⟨26, _⟩ => ⟨S2x1024x1024, .f32⟩
  | .hbm, ⟨27, _⟩ => ⟨S1x1024x512, .f32⟩
  | .hbm, ⟨28, _⟩ => ⟨S1024x512, .f32⟩
  | .hbm, ⟨29, _⟩ => ⟨S1x1024x512, .f32⟩
  | .hbm, ⟨30, _⟩ => ⟨S1024x512, .f32⟩
  | .hbm, ⟨31, _⟩ => ⟨S1024x512, .f32⟩
  | .hbm, ⟨32, _⟩ => ⟨S1x1024x512, .f32⟩
  | .hbm, ⟨33, _⟩ => ⟨S1024x512, .f32⟩
  | .hbm, ⟨34, _⟩ => ⟨S1x1024x512, .f32⟩
  | .hbm, ⟨35, _⟩ => ⟨S1024x512, .f32⟩
  | .hbm, ⟨36, _⟩ => ⟨S1024x512, .f32⟩
  | .hbm, ⟨37, _⟩ => ⟨S1024x1024, .f32⟩
  | .hbm, ⟨38, _⟩ => ⟨S1024x1024, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_cst_2 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.KernelIdeal.Protocol.lean ====
/-
# The exchange between a device and its peer, as a protocol

Sixteen devices, in pairs: `peer c` differs from `c` in the mesh coordinate `y`. A device holds one part of the sum,
1024 by 1024; it keeps one half of the columns, and sends its peer the other half, quantised to 8 bits, in eight
chunks of 128 rows. Per device `c` (with `p = peer c`) and chunk `k`:

* barrier semaphore of `c`: `p` signals it once, handing over its eight landing slices; `c` waits for one unit
  before it sends anything;
* `in k`: `c`'s own copy of rows `128 k …` of its argument into slice `k` of the input buffer; the wait gives back the
  source rows, and the slice holding them;
* `send k` / `recv k`: the copy of slice `k` of `c`'s codes into slice `k` of `p`'s landing buffer credits `send k` on
  `c` (which gives the codes back) and `recv k` on `p` (which gives `p` the slice holding `c`'s codes).

One round per cell, one duty per cell. This file states the cells, the contents handed over, the schedule, and the
order in which the cells may be waited on.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Pointwise.Index
public import Idealize.ShloMosaic.Lib.Tactic

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Ghost state: the pipeline's cells, and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pairs of devices -/

/-- The device that differs in the coordinate `y` (a device's number is `8 x + 4 y + z`). -/
def peer (c : Dev nD) : Dev nD := ⟨(8 * (c.val / 8) + c.val % 4 + 4) - 4 * ((c.val / 4) % 2), by
  have := c.isLt; simp only [nD] at this ⊢; omega⟩

theorem peer_peer (c : Dev nD) : peer (peer c) = c := by revert c; decide
theorem peer_ne (c : Dev nD) : peer c ≠ c := by revert c; decide

/-- The pairing, as a permutation of the devices. -/
def pairing : Dev nD ≃ Dev nD := ⟨peer, peer, peer_peer, peer_peer⟩

/-- `y = 0`: the device keeps the first 512 columns. -/
abbrev Low (c : Dev nD) : Prop := (c.val / 4) % 2 = 0

theorem low_peer (c : Dev nD) : Low (peer c) ↔ ¬ Low c := by revert c; decide

/-! ## Slices and semaphores of a chunk -/

theorem xR_inb (k : Fin 8) : ∀ a, (![0, 128 * k.val, 0] : Fin 3 → Nat) a + S1x128x1024.size a ≤ S1x1024x1024.size a := by
  revert k; decide
theorem bR_inb (k : Fin 8) : ∀ a, (![k.val, 0, 0] : Fin 3 → Nat) a + S1x128x1024.size a ≤ S8x128x1024.size a := by
  revert k; decide
theorem hR_inb (k : Fin 8) : ∀ a, (![k.val, 0, 0] : Fin 3 → Nat) a + S1x128x512.size a ≤ S8x128x512.size a := by
  revert k; decide
theorem oR_inb (k : Fin 8) : ∀ a, (![128 * k.val, 0] : Fin 2 → Nat) a + S128x512.size a ≤ S1024x512.size a := by
  revert k; decide
theorem sR_inb (k : Fin 8) : ∀ a, (![k.val] : Fin 1 → Nat) a + S1.size a ≤ S8.size a := by
  revert k; decide

/-- Rows `128 k …` of the argument. -/
abbrev xR (k : Fin 8) : Rect S1x1024x1024 := Rect.unit (s := S1x1024x1024) ![0, 128 * k.val, 0] S1x128x1024.size (xR_inb k)
/-- Slice `k` of the input buffer. -/
abbrev bR (k : Fin 8) : Rect S8x128x1024 := Rect.unit (s := S8x128x1024) ![k.val, 0, 0] S1x128x1024.size (bR_inb k)
/-- Slice `k` of a buffer of codes. -/
abbrev hR (k : Fin 8) : Rect S8x128x512 := Rect.unit (s := S8x128x512) ![k.val, 0, 0] S1x128x512.size (hR_inb k)
/-- Rows `128 k …` of the result. -/
abbrev oR (k : Fin 8) : Rect S1024x512 := Rect.unit (s := S1024x512) ![128 * k.val, 0] S128x512.size (oR_inb k)
abbrev sR (k : Fin 8) : Rect S8 := Rect.unit (s := S8) ![k.val] S1.size (sR_inb k)

abbrev xM (k : Fin 8) : Memref sig .tc .hbm S128x1024 .bf16 :=
  ((Memref.whole main_arg0).slice (xR k) (fun _ => rfl)).squeeze S128x1024 squeezes_S1x128x1024_S128x1024
abbrev inM (k : Fin 8) : Memref sig .tc .vmem S128x1024 .bf16 :=
  ((Memref.whole cc0_scratch0).slice (bR k) (fun _ => rfl)).squeeze S128x1024 squeezes_S1x128x1024_S128x1024
abbrev sendM (k : Fin 8) : Memref sig .tc .vmem S128x512 .i8 :=
  ((Memref.whole cc0_scratch1).slice (hR k) (fun _ => rfl)).squeeze S128x512 squeezes_S1x128x512_S128x512
abbrev recvM (k : Fin 8) : Memref sig .tc .vmem S128x512 .i8 :=
  ((Memref.whole cc0_scratch2).slice (hR k) (fun _ => rfl)).squeeze S128x512 squeezes_S1x128x512_S128x512

abbrev inSem (k : Fin 8) : DmaSem sig := ((cc0_scratch3.slice (sR k)).squeeze S_ squeezes_S1_S_).sem
abbrev sendSem (k : Fin 8) : DmaSem sig := ((cc0_scratch4.slice (sR k)).squeeze S_ squeezes_S1_S_).sem
abbrev recvSem (k : Fin 8) : DmaSem sig := ((cc0_scratch5.slice (sR k)).squeeze S_ squeezes_S1_S_).sem
abbrev barS : Sem sig := (SemArray.scalar (sig.barrier 0 rfl) : Sems sig S_).sem

/-- The transfer semaphores by class: 0 in, 1 send, 2 receive. -/
def xsem : Fin 3 × Fin 8 → DmaSem sig
  | (0, k) => inSem k
  | (1, k) => sendSem k
  | (2, k) => recvSem k

theorem xsem_val (j : Fin 3 × Fin 8) : (xsem j).val = 8 * j.1.val + j.2.val + 1 := by
  revert j; decide

/-- A transfer semaphore's class and chunk, read off its number. -/
def classOf (q : DmaSem sig) : ℕ := (q.val - 1) / 8
def chunkOf (q : DmaSem sig) : Fin 8 := ⟨(q.val - 1) % 8, Nat.mod_lt _ (by decide)⟩

theorem classOf_xsem (j : Fin 3 × Fin 8) : classOf (xsem j) = j.1.val := by
  unfold classOf; rw [xsem_val]; have := j.2.isLt; omega
theorem chunkOf_xsem (j : Fin 3 × Fin 8) : chunkOf (xsem j) = j.2 := by
  refine Fin.ext ?_; show ((xsem j).val - 1) % 8 = j.2.val; rw [xsem_val]; have := j.2.isLt; omega
theorem xsem_pos (j : Fin 3 × Fin 8) : 1 ≤ (xsem j).val := by rw [xsem_val]; omega

theorem xsem_injective : Function.Injective xsem := fun a b h =>
  Prod.ext (Fin.ext (by rw [← classOf_xsem, h, classOf_xsem])) (by rw [← chunkOf_xsem, h, chunkOf_xsem])

/-- A device's cells: the barrier's, and one per transfer semaphore. -/
abbrev Ci : Type := Unit ⊕ Fin 3 × Fin 8
abbrev csem : Ci → SemLoc sig
  | .inl _ => .reg barS
  | .inr j => .dma (xsem j)
abbrev osem (j : Fin 3 × Fin 8) : SemLoc sig := .dma (xsem j)
abbrev kcell (ci : Dev nD × Ci) : GSem nD τ sig := ((ci.1 : Thread nD τ), csem ci.2)

abbrev barCell (c : Dev nD) : GSem nD τ sig := ((c : Thread nD τ), .reg barS)
abbrev inCell (c : Dev nD) (k : Fin 8) : GSem nD τ sig := ((c : Thread nD τ), .dma (inSem k))
abbrev sendCell (c : Dev nD) (k : Fin 8) : GSem nD τ sig := ((c : Thread nD τ), .dma (sendSem k))
abbrev recvCell (c : Dev nD) (k : Fin 8) : GSem nD τ sig := ((c : Thread nD τ), .dma (recvSem k))

theorem csem_injective : Function.Injective csem
  | .inl _, .inl _, _ => rfl
  | .inl _, .inr _, h => by cases h
  | .inr _, .inl _, h => by cases h
  | .inr _, .inr _, h => congrArg Sum.inr (xsem_injective (SemLoc.dma.inj h))

theorem kcell_injective : Function.Injective (kcell : Dev nD × Ci → GSem nD τ sig) := fun a b h =>
  Prod.ext (congrArg (fun g : GSem nD τ sig => g.1.1) h) (csem_injective (congrArg Prod.snd h))

/-- What a copy of a chunk into the input buffer credits, and what a copy of a chunk of codes does. -/
def NI : ℕ := (inM 0).view.dmaCredit
def NQ : ℕ := (recvM 0).view.dmaCredit
theorem NI_pos : 0 < NI := View.dmaCredit_pos _ (by decide)
theorem NQ_pos : 0 < NQ := View.dmaCredit_pos _ (by decide)

theorem inM_credit (k : Fin 8) : (inM k).view.dmaCredit = NI := rfl
theorem recvM_credit (k : Fin 8) : (recvM k).view.dmaCredit = NQ := rfl
theorem sendM_credit (k : Fin 8) : (sendM k).view.dmaCredit = NQ := rfl

/-! ## Contents -/

/-- The argument on device `c`. -/
abbrev xbuf (c : Dev nD) : S1x1024x1024.Idx → Elt F .bf16 := m ((c : Thread nD τ).loc main_arg0)

/-- Chunk `k` of the argument. -/
def xc (c : Dev nD) (k : Fin 8) : Vec F S1x128x1024 .bf16 := fun j => xbuf m c ((xR k).emb j)

/-- The codes device `c` sends for chunk `k`: the quantised other half of the columns. -/
def qc (c : Dev nD) (k : Fin 8) : Vec F S1x128x512 .i8 :=
  if Low c then k0_pay1 (xc m c k) else k0_pay2 (xc m c k)

/-- Rows of chunk `k` of device `c`'s result: its own half plus what its peer's codes stand for. -/
def oc (c : Dev nD) (k : Fin 8) : Vec F S128x512 .bf16 :=
  if Low c then k0_pay25 (qc m (peer c) k) (xc m c k) else k0_pay26 (qc m (peer c) k) (xc m c k)

/-- The input buffer once every chunk is in. -/
def inG (c : Dev nD) : S8x128x1024.Idx → Elt F .bf16 := fun i =>
  xc m c (i 0) (ix3 (n0 := 1) (n1 := 128) (n2 := 1024) 0 (i 1) (i 2))
/-- The buffer of codes once every chunk is quantised. -/
def qG (c : Dev nD) : S8x128x512.Idx → Elt F .i8 := fun i =>
  qc m c (i 0) (ix3 (n0 := 1) (n1 := 128) (n2 := 512) 0 (i 1) (i 2))
/-- The result. -/
def outG (c : Dev nD) : S1024x512.Idx → Elt F .bf16 := fun i =>
  oc m c ⟨(i 0).val / 128, by have : (i 0).val < 1024 := (i 0).isLt; omega⟩
    (ix2 (n0 := 128) (n1 := 512) ⟨(i 0).val % 128, Nat.mod_lt _ (by decide)⟩ (i 1))

/-- Slice `k` of a buffer of eight slices, seen from inside: coordinate 0 is `k`, the others the slice's own. -/
theorem bR_emb (k : Fin 8) (j : S1x128x1024.Idx) : (bR k).emb j = ix3 (n0 := 8) (n1 := 128) (n2 := 1024) k (j 1) (j 2) := by
  have h0 : (j 0).val < 1 := (j 0).isLt
  funext a; refine Fin.ext ?_; rw [ValueKit.rect_emb_unit_val]
  match a with
  | ⟨0, _⟩ => show k.val + (j 0).val = k.val; omega
  | ⟨1, _⟩ => show 0 + (j 1).val = (j 1).val; omega
  | ⟨2, _⟩ => show 0 + (j 2).val = (j 2).val; omega
theorem hR_emb (k : Fin 8) (j : S1x128x512.Idx) : (hR k).emb j = ix3 (n0 := 8) (n1 := 128) (n2 := 512) k (j 1) (j 2) := by
  have h0 : (j 0).val < 1 := (j 0).isLt
  funext a; refine Fin.ext ?_; rw [ValueKit.rect_emb_unit_val]
  match a with
  | ⟨0, _⟩ => show k.val + (j 0).val = k.val; omega
  | ⟨1, _⟩ => show 0 + (j 1).val = (j 1).val; omega
  | ⟨2, _⟩ => show 0 + (j 2).val = (j 2).val; omega
theorem first_zero {n1 n2 : ℕ} (j : (⟨3, ![1, n1, n2]⟩ : Shape).Idx) :
    ix3 (n0 := 1) (n1 := n1) (n2 := n2) 0 (j 1) (j 2) = j := by
  have h0 : (j 0).val < 1 := (j 0).isLt
  funext a; match a with
  | ⟨0, _⟩ => refine Fin.ext ?_; show 0 = (j 0).val; omega
  | ⟨1, _⟩ => rfl
  | ⟨2, _⟩ => rfl

theorem inG_emb (c : Dev nD) (k : Fin 8) (j : S1x128x1024.Idx) : inG m c ((bR k).emb j) = xc m c k j := by
  rw [bR_emb]; exact congrArg (xc m c k) (first_zero j)
theorem qG_emb (c : Dev nD) (k : Fin 8) (j : S1x128x512.Idx) : qG m c ((hR k).emb j) = qc m c k j := by
  rw [hR_emb]; exact congrArg (qc m c k) (first_zero j)
theorem outG_emb (c : Dev nD) (k : Fin 8) (j : S128x512.Idx) : outG m c ((oR k).emb j) = oc m c k j := by
  have h0 : (j 0).val < 128 := (j 0).isLt
  have hk := k.isLt
  have e0 : ((oR k).emb j 0 : Nat) = 128 * k.val + (j 0).val := ValueKit.rect_emb_unit_val (s := S1024x512) _ _ (oR_inb k) j 0
  have e1 : ((oR k).emb j 1 : Nat) = 0 + (j 1).val := ValueKit.rect_emb_unit_val (s := S1024x512) _ _ (oR_inb k) j 1
  unfold outG
  have hk' : (⟨((oR k).emb j 0).val / 128, by have : ((oR k).emb j 0).val < 1024 := ((oR k).emb j 0).isLt; omega⟩ : Fin 8) = k := by
    refine Fin.ext ?_; show ((oR k).emb j 0).val / 128 = k.val; rw [e0]; omega
  rw [hk']
  refine congrArg (oc m c k) ?_
  funext a; refine Fin.ext ?_
  match a with
  | ⟨0, _⟩ => show ((oR k).emb j 0).val % 128 = (j 0).val; rw [e0]; omega
  | ⟨1, _⟩ => show ((oR k).emb j 1).val = (j 1).val; rw [e1]; omega

/-! ## What the cells hand over -/

/-- Rows of chunk `k` of the argument, held. -/
def xPts (c : Dev nD) (k : Fin 8) : sProp 𝕄 := ((c : Thread nD τ).loc main_arg0) ↦[(xR k).set]{fullShare} xbuf m c
/-- Slice `k` of the input buffer at some contents; holding its chunk. -/
def inAny (c : Dev nD) (k : Fin 8) : sProp 𝕄 :=
  iprop(∃ f : Buf (Elt F) ((c : Thread nD τ).loc cc0_scratch0), ((c : Thread nD τ).loc cc0_scratch0) ↦[(bR k).set]{fullShare} f)
def inPts (c : Dev nD) (k : Fin 8) : sProp 𝕄 := ((c : Thread nD τ).loc cc0_scratch0) ↦[(bR k).set]{fullShare} inG m c
/-- Slice `k` of the codes to send at some contents; holding the codes. -/
def qAny (c : Dev nD) (k : Fin 8) : sProp 𝕄 :=
  iprop(∃ f : Buf (Elt F) ((c : Thread nD τ).loc cc0_scratch1), ((c : Thread nD τ).loc cc0_scratch1) ↦[(hR k).set]{fullShare} f)
def qPts (c : Dev nD) (k : Fin 8) : sProp 𝕄 := ((c : Thread nD τ).loc cc0_scratch1) ↦[(hR k).set]{fullShare} qG m c
/-- Landing slice `k` at some contents; holding the peer's codes. -/
def rAny (c : Dev nD) (k : Fin 8) : sProp 𝕄 :=
  iprop(∃ f : Buf (Elt F) ((c : Thread nD τ).loc cc0_scratch2), ((c : Thread nD τ).loc cc0_scratch2) ↦[(hR k).set]{fullShare} f)
def rPts (c : Dev nD) (k : Fin 8) : sProp 𝕄 := ((c : Thread nD τ).loc cc0_scratch2) ↦[(hR k).set]{fullShare} qG m (peer c)
/-- Rows of chunk `k` of the result at some contents; holding the result. -/
def oAny (c : Dev nD) (k : Fin 8) : sProp 𝕄 :=
  iprop(∃ f : Buf (Elt F) ((c : Thread nD τ).loc cc0_stg0_0), ((c : Thread nD τ).loc cc0_stg0_0) ↦[(oR k).set]{fullShare} f)
def oPts (c : Dev nD) (k : Fin 8) : sProp 𝕄 := ((c : Thread nD τ).loc cc0_stg0_0) ↦[(oR k).set]{fullShare} outG m c

/-- The barrier's payload: the peer's landing slices. -/
def barPay (c : Dev nD) : sProp 𝕄 := bigSep Finset.univ fun k : Fin 8 => rAny (F := F) (peer c) k
def inPay (c : Dev nD) (k : Fin 8) : sProp 𝕄 := iprop(inPts m c k ∗ xPts m c k)

instance xPts_storable (c : Dev nD) (k : Fin 8) : BI.Storable (upEmb : UEmb _ 𝕄) (xPts m c k) := by unfold xPts; infer_instance
instance inPts_storable (c : Dev nD) (k : Fin 8) : BI.Storable (upEmb : UEmb _ 𝕄) (inPts m c k) := by unfold inPts; infer_instance
instance qPts_storable (c : Dev nD) (k : Fin 8) : BI.Storable (upEmb : UEmb _ 𝕄) (qPts m c k) := by unfold qPts; infer_instance
instance rPts_storable (c : Dev nD) (k : Fin 8) : BI.Storable (upEmb : UEmb _ 𝕄) (rPts m c k) := by unfold rPts; infer_instance
instance rAny_storable (c : Dev nD) (k : Fin 8) : BI.Storable (upEmb : UEmb _ 𝕄) (rAny (F := F) c k) := by unfold rAny; infer_instance
instance barPay_storable (c : Dev nD) : BI.Storable (upEmb : UEmb _ 𝕄) (barPay (F := F) c) := by unfold barPay; infer_instance
instance inPay_storable (c : Dev nD) (k : Fin 8) : BI.Storable (upEmb : UEmb _ 𝕄) (inPay m c k) := by unfold inPay; infer_instance

/-! ## The schedule -/

/-- Whether a semaphore is one of the exchange's. -/
def Ours : SemLoc sig → Prop
  | .reg s => s = barS
  | .dma q => 1 ≤ q.val
instance (s : SemLoc sig) : Decidable (Ours s) := by cases s <;> unfold Ours <;> infer_instance

/-- What one duty of a cell credits. -/
def amt : SemLoc sig → ℕ
  | .reg _ => 1
  | .dma q => if classOf q = 0 then NI else NQ

/-- What it hands over. -/
def pay (c : Dev nD) : SemLoc sig → sProp 𝕄
  | .reg _ => barPay c
  | .dma q => if classOf q = 0 then inPay m c (chunkOf q) else if classOf q = 1 then qPts m c (chunkOf q) else rPts m c (chunkOf q)

theorem amt_pos (s : SemLoc sig) : 0 < amt s := by
  cases s with
  | reg s => exact Nat.one_pos
  | dma q => unfold amt; dsimp only; split; exacts [NI_pos, NQ_pos]

instance pay_storable (c : Dev nD) (s : SemLoc sig) : BI.Storable (upEmb : UEmb _ 𝕄) (pay m c s) := by
  cases s with
  | reg s => unfold pay; infer_instance
  | dma q => unfold pay; dsimp only; (repeat' split) <;> infer_instance

/-- One round, one duty per cell. -/
def Rd : Rounds.Schedule (GSem nD τ sig) Unit 𝕄 where
  duties g r := if r = 0 ∧ g.1.2 = .tc ∧ Ours g.2 then {()} else ∅
  unitless _ := False
  amount g _ _ := amt g.2
  payload g _ _ := pay m g.1.1 g.2
  amount_pos g _ _ _ := amt_pos g.2

instance Rd_storable (g : GSem nD τ sig) (r : ℕ) (d : Unit) : BI.Storable (upEmb : UEmb _ 𝕄) ((Rd m).payload g r d) :=
  pay_storable m g.1.1 g.2

theorem ours_csem : ∀ i : Ci, Ours (csem i)
  | .inl _ => rfl
  | .inr j => xsem_pos j

theorem duties_kcell (c : Dev nD) (i : Ci) : (Rd m).duties (kcell (c, i)) 0 = {()} := if_pos ⟨rfl, rfl, ours_csem i⟩
theorem duty_mem (c : Dev nD) (i : Ci) : () ∈ (Rd m).duties (kcell (c, i)) 0 := by
  rw [duties_kcell]; exact Finset.mem_singleton_self _
theorem duties_later (g : GSem nD τ sig) (r : ℕ) (hr : 1 ≤ r) : (Rd m).duties g r = ∅ := if_neg fun h => by omega
theorem expect_kcell (c : Dev nD) (i : Ci) : (Rd m).expect (kcell (c, i)) 0 = amt (csem i) := by
  unfold Schedule.expect Schedule.amountOf
  rw [duties_kcell, Finset.sum_singleton]; rfl
theorem rest_kcell (c : Dev nD) (i : Ci) :
    bigSep ((Rd m).duties (kcell (c, i)) 0 \ ∅) (fun d => (Rd m).payload (kcell (c, i)) 0 d) = pay m c (csem i) := by
  rw [Finset.sdiff_empty, duties_kcell, bigSep_singleton]; rfl

theorem amt_in (k : Fin 8) : amt (.dma (inSem k)) = NI := if_pos (classOf_xsem (0, k))
theorem amt_send (k : Fin 8) : amt (.dma (sendSem k)) = NQ := if_neg (by rw [show sendSem k = xsem (1, k) from rfl, classOf_xsem]; simp)
theorem amt_recv (k : Fin 8) : amt (.dma (recvSem k)) = NQ := if_neg (by rw [show recvSem k = xsem (2, k) from rfl, classOf_xsem]; simp)

theorem pay_in (c : Dev nD) (k : Fin 8) : pay m c (.dma (inSem k)) = inPay m c k := by
  unfold pay; dsimp only; rw [show inSem k = xsem (0, k) from rfl, classOf_xsem, chunkOf_xsem]; rfl
theorem pay_send (c : Dev nD) (k : Fin 8) : pay m c (.dma (sendSem k)) = qPts m c k := by
  unfold pay; dsimp only; rw [show sendSem k = xsem (1, k) from rfl, classOf_xsem, chunkOf_xsem]; rfl
theorem pay_recv (c : Dev nD) (k : Fin 8) : pay m c (.dma (recvSem k)) = rPts m c k := by
  unfold pay; dsimp only; rw [show recvSem k = xsem (2, k) from rfl, classOf_xsem, chunkOf_xsem]; rfl

/-! ## What a device owes, and the order of waiting -/

/-- The receive credits a device still owes its peer with `n` chunks left to send: those of the last `n`. -/
def owed (c : Dev nD) : ℕ → CellTallies nD τ sig Unit
  | 0 => 0
  | n + 1 => owed c n + tallyAt (recvCell (peer c) ⟨7 - n, by omega⟩) () NQ

/-- At launch: every receive credit, and the barrier's unit. -/
def O₀ (c : Dev nD) : CellTallies nD τ sig Unit := owed c 8 + tallyAt (barCell (peer c)) () 1

def L (g : GSem nD τ sig) : Finset Unit := if g.1.2 = .tc then {()} else ∅
/-- Levels: receive cells above the barrier's, all others below. -/
def lev : SemLoc sig → ℕ
  | .reg _ => 1
  | .dma q => if classOf q = 2 then 2 else 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl

theorem lev_in (k : Fin 8) : lev (.dma (inSem k)) = 0 := if_neg (by rw [show inSem k = xsem (0, k) from rfl, classOf_xsem]; simp)
theorem lev_send (k : Fin 8) : lev (.dma (sendSem k)) = 0 := if_neg (by rw [show sendSem k = xsem (1, k) from rfl, classOf_xsem]; simp)
theorem lev_recv (k : Fin 8) : lev (.dma (recvSem k)) = 2 := if_pos (classOf_xsem (2, k))

theorem owed_pos {c : Dev nD} {n : ℕ} {g : GSem nD τ sig} {u : Unit} (h : 0 < owed c n g u) :
    ∃ k, g = recvCell (peer c) k := by
  induction n with
  | zero => exact absurd h (Nat.lt_irrefl 0)
  | succ n ih =>
    unfold owed at h
    rw [Pi.add_apply, Finsupp.add_apply, tallyAt_apply] at h
    by_cases hg : g = recvCell (peer c) ⟨7 - n, by omega⟩ ∧ u = ()
    · exact ⟨_, hg.1⟩
    · rw [if_neg hg, Nat.add_zero] at h; exact ih h

theorem O₀_pos {c : Dev nD} {g : GSem nD τ sig} {u : Unit} (h : 0 < O₀ c g u) :
    (∃ k, g = recvCell (peer c) k) ∨ g = barCell (peer c) := by
  unfold O₀ at h
  rw [Pi.add_apply, Finsupp.add_apply, tallyAt_apply] at h
  by_cases hg : g = barCell (peer c) ∧ u = ()
  · exact Or.inr hg.1
  · rw [if_neg hg, Nat.add_zero] at h; exact Or.inl (owed_pos h)

/-- A wait below the receive cells, while nothing but receive credits is owed. -/
theorem mayWait_owed (c : Dev nD) (s : SemLoc sig) (n : ℕ) (hs : lev s < 2) :
    (levAts L lv : sProp 𝕄) ⊢ MayWait (c : Thread nD τ) s () (owed c n) :=
  MayOwe.of_cut (L := L) (lev := lv) (lev s) (fun p hp => by rw [Finset.mem_singleton.mp hp, L_tc]; exact Finset.mem_singleton_self _)
    (fun g u hg => by obtain ⟨k, rfl⟩ := owed_pos hg; exact Finset.mem_singleton_self _)
    (fun p hp => by rw [Finset.mem_singleton.mp hp]; exact le_refl _)
    (fun g u hg => by obtain ⟨k, rfl⟩ := owed_pos hg; show lev s < lev (.dma (recvSem k)); rw [lev_recv]; exact hs)

/-- The launch's own waits on the result's staging semaphore. -/
theorem mayWait_stage (c : Dev nD) (q : DmaSem sig) (hq : lev (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; exact le_of_eq hq)
      (fun g u hg => by
        rcases O₀_pos hg with ⟨k, rfl⟩ | rfl
        · show 0 < lev (.dma (recvSem k)); rw [lev_recv]; decide
        · exact Nat.one_pos)
  · rw [MayWait_zero]; iintro -; iempintro

end Cert.KernelIdeal.Exch

end
-- ==== Proof.KernelIdeal.Steps.lean ====
/-
# One chunk, effect by effect

Each effect of the kernel's body that concerns chunk `k`, stated once for a symbolic device and chunk: what the device
holds of the chunk before it, and what after. A chunk goes through seven states, `St0` to `St7`:

start of the copy in, wait for it, quantise, send, wait for the peer's codes, write the result, wait for the send.
-/
module

public import proofs.«01_k».proof.Proof.KernelIdeal.Protocol
public import Idealize.ShloMosaic.Lib.Pipeline.Value

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ)

/-! ## Views of slices -/

theorem xM_set (k : Fin 8) : (xM k).view.set = (xR k).set :=
  (View.set_reshape _ _).trans (View.set_slice_whole main_arg0 (xR k))
theorem inM_set (k : Fin 8) : (inM k).view.set = (bR k).set :=
  (View.set_reshape _ _).trans (View.set_slice_whole cc0_scratch0 (bR k))
theorem sendM_set (k : Fin 8) : (sendM k).view.set = (hR k).set :=
  (View.set_reshape _ _).trans (View.set_slice_whole cc0_scratch1 (hR k))
theorem recvM_set (k : Fin 8) : (recvM k).view.set = (hR k).set :=
  (View.set_reshape _ _).trans (View.set_slice_whole cc0_scratch2 (hR k))

/-- A buffer rewritten through a view agrees on the view's elements with any contents the view reads back as what was written. -/
theorem write_agree {κ : Kind} {sp : Space} {s : Shape} {e : EltTy} (v : View sig κ sp s e) (f g : v.ty.Contents (Elt F))
    (w : s.Idx → Elt F e) (h : v.read (Elt F) g = w) : ∀ i ∈ v.set, v.write (Elt F) f w Finset.univ i = g i := fun i hi => by
  obtain ⟨y, rfl⟩ := (Finset.mem_map.mp hi).imp fun y h => h.2
  rw [View.write_emb_of_mem _ _ (Finset.mem_univ y), ← h, View.read_apply, cast_cast, cast_eq]

theorem read_xin (c : Dev nD) (k : Fin 8) :
    (inM k).view.read (Elt F) (inG m c) = (xM k).view.read (Elt F) (xbuf m c) := by
  funext y
  exact inG_emb m c k (Shape.reshapeEquiv squeezes_S1x128x1024_S128x1024.numel_eq y)
theorem read_sent (c : Dev nD) (k : Fin 8) :
    (recvM k).view.read (Elt F) (qG m c) = (sendM k).view.read (Elt F) (qG m c) := rfl

/-! ## Records every device has -/

variable (K : Dev nD × Ci → ℕ)

/-- Every cell's invariant, and that every cell has reached its round. -/
def recs : sProp 𝕄 :=
  iprop((bigSep Finset.univ fun ci : Dev nD × Ci => cellInv ER (Rd m) (K ci) (kcell ci))
    ∗ bigSep Finset.univ fun ci : Dev nD × Ci => reached ER (kcell ci) 0)

instance recs_persistent : BI.Persistent (recs m K) := by unfold recs; infer_instance

theorem recs_inv (ci : Dev nD × Ci) : recs m K ⊢ cellInv ER (Rd m) (K ci) (kcell ci) := by
  unfold recs; exact sep_elim_left.trans (bigSep_elim (Finset.mem_univ ci))
theorem recs_reached (ci : Dev nD × Ci) : recs m K ⊢ reached ER (kcell ci) 0 := by
  unfold recs; exact sep_elim_right.trans (bigSep_elim (Finset.mem_univ ci))

/-- What a device owes, at some set of waits so far. -/
def Owing (c : Dev nD) (O : CellTallies nD τ sig Unit) : sProp 𝕄 := iprop(∃ W : Waits sig Unit, owes (c : Thread nD τ) O W)

/-! ## The states of a chunk -/

abbrev tok (g : GSem nD τ sig) : sProp 𝕄 := dutyTok ER g 0 ()
abbrev at0 (g : GSem nD τ sig) : sProp 𝕄 := atPos ER g 0 ∅ 0
abbrev at1 (g : GSem nD τ sig) : sProp 𝕄 := atPos ER g (0 + 1) ∅ 0

/-- What the sending and the receiving of the chunk take, from the start. -/
def Link (c : Dev nD) (k : Fin 8) : sProp 𝕄 :=
  iprop(tok (sendCell c k) ∗ tok (recvCell (peer c) k) ∗ at0 (sendCell c k) ∗ at0 (recvCell c k)
    ∗ cred (tallyAt (recvCell c k) () NQ))
/-- The same once the chunk is sent. -/
def Sent (c : Dev nD) (k : Fin 8) : sProp 𝕄 :=
  iprop(cred (tallyAt (sendCell c k) () NQ) ∗ at0 (sendCell c k) ∗ at0 (recvCell c k) ∗ cred (tallyAt (recvCell c k) () NQ))
/-- The chunk of the argument, back, and in the input buffer. -/
def Held (c : Dev nD) (k : Fin 8) : sProp 𝕄 := iprop(xPts m c k ∗ inPts m c k ∗ at1 (inCell c k))

def St0 (c : Dev nD) (k : Fin 8) : sProp 𝕄 :=
  iprop(tok (inCell c k) ∗ at0 (inCell c k) ∗ xPts m c k ∗ inAny (F := F) c k ∗ Link (F := F) c k ∗ qAny (F := F) c k ∗ oAny (F := F) c k)
def St1 (c : Dev nD) (k : Fin 8) : sProp 𝕄 :=
  iprop(cred (tallyAt (inCell c k) () NI) ∗ at0 (inCell c k) ∗ Link (F := F) c k ∗ qAny (F := F) c k ∗ oAny (F := F) c k)
def St2 (c : Dev nD) (k : Fin 8) : sProp 𝕄 := iprop(Held m c k ∗ Link (F := F) c k ∗ qAny (F := F) c k ∗ oAny (F := F) c k)
def St3 (c : Dev nD) (k : Fin 8) : sProp 𝕄 := iprop(Held m c k ∗ Link (F := F) c k ∗ qPts m c k ∗ oAny (F := F) c k)
def St4 (c : Dev nD) (k : Fin 8) : sProp 𝕄 := iprop(Held m c k ∗ Sent (F := F) c k ∗ oAny (F := F) c k)
def St5 (c : Dev nD) (k : Fin 8) : sProp 𝕄 :=
  iprop(Held m c k ∗ (cred (tallyAt (sendCell c k) () NQ) ∗ at0 (sendCell c k)) ∗ (rPts m c k ∗ at1 (recvCell c k)) ∗ oAny (F := F) c k)
def St6 (c : Dev nD) (k : Fin 8) : sProp 𝕄 :=
  iprop(Held m c k ∗ (cred (tallyAt (sendCell c k) () NQ) ∗ at0 (sendCell c k)) ∗ (rPts m c k ∗ at1 (recvCell c k)) ∗ oPts m c k)
def St7 (c : Dev nD) (k : Fin 8) : sProp 𝕄 :=
  iprop(Held m c k ∗ (qPts m c k ∗ at1 (sendCell c k)) ∗ (rPts m c k ∗ at1 (recvCell c k)) ∗ oPts m c k)

/-! ## Copies and waits -/

section Moves
variable {α : Type} (c : Dev nD) (k : Fin 8)

theorem landed_in (f : Buf (Elt F) ((inM k).view.loc (c : Thread nD τ))) :
    iprop(((inM k).view.loc (c : Thread nD τ) ↦[(inM k).view.set]{fullShare}
        ((inM k).view.write (Elt F) f ((xM k).view.read (Elt F) (xbuf m c)) Finset.univ))
      ∗ ((xM k).view.loc (c : Thread nD τ) ↦[(xM k).view.set]{fullShare} xbuf m c)) ⊢ inPay m c k := by
  rw [pointsTo_congr (write_agree (inM k).view f (inG m c) _ (read_xin m c k)), inM_set, xM_set]
  exact BI.Entails.refl _

/-- The copy of the chunk into the input buffer starts. -/
theorem step_copy {hs : (xM k).view.WordExact} {hd : (inM k).view.WordExact}
    {ht : DmaTarget.Typed (nD := nD) (τ := τ) (p := Proc.tc) .hbm (.dma (inSem k)) (.here (inM k))}
    {kk : PUnit → Prog (TpuEff nD τ sig (Elt F) Λ₀ .tc) α} {Q : α → sProp 𝕄} :
    iprop(recs m K ∗ St0 m c k) ⊢ iprop((St1 (F := F) c k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (xM k) (.here (inM k)) (.dma (inSem k)) hs hd ht) kk) Q) := by
  unfold St0 St1 inAny xPts
  iintro ⟨#Hr, Ht, Ha, Hx, ⟨%f, Hb⟩, Hrest⟩ Hk
  ihave #HI := (recs_inv m K (c, .inr (0, k))) $$ Hr
  ihave #Hat := (recs_reached m K (c, .inr (0, k))) $$ Hr
  rw [← xM_set, ← inM_set]
  iapply (Rounds.wp_copy_pointsTo 𝒱₀ ER (Rd m) (c : Thread nD τ) none (κ := K (c, .inr (0, k))) (r := 0) (d := ())
      (duty_mem m c (.inr (0, k))) () NI (inM_credit k) (amt_in k) ((landed_in m c k f).trans (Entails.of_eq (pay_in m c k).symm))) $$ [Hx Hb Ht]
  · isplitr; · iexact HI
    isplitl [Hx]; · iexact Hx
    isplitl [Hb]; · iexact Hb
    isplitl [Ht]; · iexact Ht
    iexact Hat
  iintro Hc
  iapply Hk
  isplitl [Hc]; · iexact Hc
  isplitl [Ha] <;> iassumption

/-- A wait on one of the device's own transfer semaphores for all its round credits. -/
theorem step_wait (j : Fin 3 × Fin 8) (O : CellTallies nD τ sig Unit) {sp sp' : Space} {s : Shape} {e : EltTy}
    {src : Memref sig .tc sp s e} {dst : Memref sig .tc sp' s e} {hs : src.view.WordExact} {hd : dst.view.WordExact}
    (hn : dst.view.dmaCredit = amt (.dma (xsem j)))
    (hw : (levAts L lv : sProp 𝕄) ⊢ MayWait (c : Thread nD τ) (.dma (xsem j)) () O)
    {kk : PUnit → Prog (TpuEff nD τ sig (Elt F) Λ₀ .tc) α} {Q : α → sProp 𝕄} :
    iprop(recs m K ∗ levAts L lv ∗ cred (tallyAt (kcell (c, .inr j)) () (amt (.dma (xsem j)))) ∗ at0 (kcell (c, .inr j)) ∗ Owing c O)
      ⊢ iprop(((pay m c (.dma (xsem j)) ∗ at1 (kcell (c, .inr j)) ∗ Owing c O)
            -∗ wp frame (wpE (defs₀ (F := F)) 𝒱₀ (c : Thread nD τ) none) Set.univ (kk ⟨⟩) Q)
      -∗ wp frame (wpE (defs₀ (F := F)) 𝒱₀ (c : Thread nD τ) none) Set.univ
          (.op (.waitDma2 (xsem j) src dst hs hd) kk) Q) := by
  unfold Owing
  iintro ⟨#Hr, #Hlev, Hc, Ha, ⟨%W, HO⟩⟩ Hk
  ihave #HI := (recs_inv m K (c, .inr j)) $$ Hr
  rw [← hn]
  iapply (Rounds.wp_wait_rest_token 𝒱₀ ER (Rd m) (c : Thread nD τ) none (κ := K (c, .inr j))
      (wpE_waitDma2_eq 𝒱₀ (c : Thread nD τ) none Set.univ) (Set.mem_univ _) () (O := O) (W := W) (R := 0) (m := 0) (T := ∅)
      (by rw [Nat.zero_add]; exact hn.trans (expect_kcell m c (.inr j)).symm)) $$ [Hc HO Ha]
  · isplitr; · iexact HI
    isplitl [Hc]; · iexact Hc
    isplitl [HO]; · iexact HO
    isplitr; · iapply hw; iexact Hlev
    iexact Ha
  iintro ⟨HO, Ha, -, Hp⟩
  iapply Hk
  isplitl [Hp]; · iapply (Entails.of_eq (rest_kcell m c (.inr j))) $$ Hp
  isplitl [Ha]; · iexact Ha
  iexists _; iexact HO

/-- The chunk is in the input buffer. -/
theorem step_waitIn (n : ℕ) {hs : (xM k).view.WordExact} {hd : (inM k).view.WordExact}
    {kk : PUnit → Prog (TpuEff nD τ sig (Elt F) Λ₀ .tc) α} {Q : α → sProp 𝕄} :
    iprop(recs m K ∗ levAts L lv ∗ St1 (F := F) c k ∗ Owing c (owed c n))
      ⊢ iprop(((St2 m c k ∗ Owing c (owed c n)) -∗ wp frame (wpE (defs₀ (F := F)) 𝒱₀ (c : Thread nD τ) none) Set.univ (kk ⟨⟩) Q)
      -∗ wp frame (wpE (defs₀ (F := F)) 𝒱₀ (c : Thread nD τ) none) Set.univ
          (.op (.waitDma2 (inSem k) (xM k) (inM k) hs hd) kk) Q) := by
  unfold St1 St2 Held
  iintro ⟨#Hr, #Hlev, ⟨Hc, Ha, Hrest⟩, HO⟩ Hk
  rw [← amt_in k]
  iapply (step_wait m K c (0, k) (owed c n) ((inM_credit k).trans (amt_in k).symm)
    (mayWait_owed c _ n (by rw [show xsem (0, k) = inSem k from rfl, lev_in]; decide))) $$ [Hc Ha HO]
  · isplitr; · iexact Hr
    isplitr; · iexact Hlev
    isplitl [Hc]; · iexact Hc
    isplitl [Ha]; · iexact Ha
    iexact HO
  iintro ⟨Hp, Ha, HO⟩
  ihave Hp' := (Entails.of_eq (show pay m c (.dma (xsem (0, k))) = _ from pay_in m c k)) $$ Hp
  unfold inPay
  icases Hp' with ⟨Hb, Hx⟩
  iapply Hk
  isplitr [HO]
  · isplitl [Hb Hx Ha]
    · isplitl [Hx]; · iexact Hx
      isplitl [Hb]; · iexact Hb
      iexact Ha
    iexact Hrest
  iexact HO

/-- The peer's codes of the chunk have landed. -/
theorem step_waitRecv {hs : (sendM k).view.WordExact} {hd : (recvM k).view.WordExact}
    {kk : PUnit → Prog (TpuEff nD τ sig (Elt F) Λ₀ .tc) α} {Q : α → sProp 𝕄} :
    iprop(recs m K ∗ levAts L lv ∗ St4 m c k ∗ Owing c (owed c 0))
      ⊢ iprop(((St5 m c k ∗ Owing c (owed c 0)) -∗ wp frame (wpE (defs₀ (F := F)) 𝒱₀ (c : Thread nD τ) none) Set.univ (kk ⟨⟩) Q)
      -∗ wp frame (wpE (defs₀ (F := F)) 𝒱₀ (c : Thread nD τ) none) Set.univ
          (.op (.waitDma2 (recvSem k) (sendM k) (recvM k) hs hd) kk) Q) := by
  unfold St4 St5 Sent
  iintro ⟨#Hr, #Hlev, ⟨Hh, ⟨HcS, HaS, HaR, HcR⟩, Ho⟩, HO⟩ Hk
  ihave HcR' := (Entails.of_eq (congrArg (fun n => (cred (tallyAt (recvCell c k) () n) : sProp 𝕄)) (amt_recv k).symm)) $$ HcR
  iapply (step_wait m K c (2, k) (owed c 0) ((recvM_credit k).trans (amt_recv k).symm)
    (by unfold owed; rw [MayWait_zero]; iintro -; iempintro)) $$ [HcR' HaR HO]
  · isplitr; · iexact Hr
    isplitr; · iexact Hlev
    isplitl [HcR']; · iexact HcR'
    isplitl [HaR]; · iexact HaR
    iexact HO
  iintro ⟨Hp, Ha, HO⟩
  ihave Hp' := (Entails.of_eq (show pay m c (.dma (xsem (2, k))) = _ from pay_recv m c k)) $$ Hp
  iapply Hk
  isplitr [HO]
  · isplitl [Hh]; · iexact Hh
    isplitl [HcS HaS]; · isplitl [HcS] <;> iassumption
    isplitl [Hp' Ha]
    · isplitl [Hp']; · iexact Hp'
      iexact Ha
    iexact Ho
  iexact HO

/-- The device's own codes of the chunk have been read. -/
theorem step_waitSend {hs : (recvM k).view.WordExact} {hd : (sendM k).view.WordExact}
    {kk : PUnit → Prog (TpuEff nD τ sig (Elt F) Λ₀ .tc) α} {Q : α → sProp 𝕄} :
    iprop(recs m K ∗ levAts L lv ∗ St6 m c k ∗ Owing c (owed c 0))
      ⊢ iprop(((St7 m c k ∗ Owing c (owed c 0)) -∗ wp frame (wpE (defs₀ (F := F)) 𝒱₀ (c : Thread nD τ) none) Set.univ (kk ⟨⟩) Q)
      -∗ wp frame (wpE (defs₀ (F := F)) 𝒱₀ (c : Thread nD τ) none) Set.univ
          (.op (.waitDma2 (sendSem k) (recvM k) (sendM k) hs hd) kk) Q) := by
  unfold St6 St7
  iintro ⟨#Hr, #Hlev, ⟨Hh, ⟨HcS, HaS⟩, HR, Ho⟩, HO⟩ Hk
  rw [← amt_send k]
  iapply (step_wait m K c (1, k) (owed c 0) ((sendM_credit k).trans (amt_send k).symm)
    (by unfold owed; rw [MayWait_zero]; iintro -; iempintro)) $$ [HcS HaS HO]
  · isplitr; · iexact Hr
    isplitr; · iexact Hlev
    isplitl [HcS]; · iexact HcS
    isplitl [HaS]; · iexact HaS
    iexact HO
  iintro ⟨Hp, Ha, HO⟩
  ihave Hp' := (Entails.of_eq (show pay m c (.dma (xsem (1, k))) = _ from pay_send m c k)) $$ Hp
  iapply Hk
  isplitr [HO]
  · isplitl [Hh]; · iexact Hh
    isplitl [Hp' Ha]
    · isplitl [Hp']; · iexact Hp'
      iexact Ha
    isplitl [HR] <;> iassumption
  iexact HO

theorem owed_send : owed c (8 - k.val) = owed c (7 - k.val) + tallyAt (recvCell (peer c) k) () NQ := by
  have hk := k.isLt
  have e : 8 - k.val = (7 - k.val) + 1 := by omega
  have e' : (⟨7 - (7 - k.val), by omega⟩ : Fin 8) = k := Fin.ext (by show 7 - (7 - k.val) = k.val; omega)
  rw [e]; conv_lhs => unfold owed
  rw [e']

theorem landed_recv (f : Buf (Elt F) ((recvM k).view.loc (peer c : Thread nD τ))) :
    ((recvM k).view.loc (peer c : Thread nD τ) ↦[(recvM k).view.set]{fullShare}
        ((recvM k).view.write (Elt F) f ((sendM k).view.read (Elt F) (qG m c)) Finset.univ)) ⊢ rPts m (peer c) k := by
  rw [pointsTo_congr (write_agree (recvM k).view f (qG m c) _ (read_sent m c k)), recvM_set]
  unfold rPts; rw [peer_peer]

/-- The device's codes of the chunk go to its peer. -/
theorem step_send (n : Dev nD) (hn : n = peer c)
    {hsc : (recvM k : Memref sig (Dev.tc n : Thread nD τ).2.kind .vmem S128x512 .i8).view.ref.isScScratch = false}
    {hs : (sendM k).view.WordExact} {hd : (recvM k).view.WordExact}
    {ht : DmaTarget.Typed (nD := nD) (τ := τ) (p := Proc.tc) .vmem (.dma (recvSem k)) (.remote (Dev.tc n : Thread nD τ) (recvM k : Memref sig (Dev.tc n : Thread nD τ).2.kind .vmem S128x512 .i8) (.dma (sendSem k)) hsc)}
    {kk : PUnit → Prog (TpuEff nD τ sig (Elt F) Λ₀ .tc) α} {Q : α → sProp 𝕄} :
    iprop(recs m K ∗ St3 m c k ∗ rAny (F := F) (peer c) k ∗ Owing c (owed c (8 - k.val)))
      ⊢ iprop(((St4 m c k ∗ Owing c (owed c (7 - k.val)))
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sendM k) (.remote (Dev.tc n : Thread nD τ) (recvM k) (.dma (sendSem k)) hsc) (.dma (recvSem k)) hs hd ht) kk) Q) := by
  subst hn
  unfold St3 St4 Link Sent rAny qPts Owing
  iintro ⟨#Hr, ⟨Hh, ⟨HtS, HtR, HaS, HaR, HcR⟩, Hq, Ho⟩, ⟨%f, Hb⟩, ⟨%W, HO⟩⟩ Hk
  ihave #HIs := (recs_inv m K (c, .inr (1, k))) $$ Hr
  ihave #Hs := (recs_reached m K (c, .inr (1, k))) $$ Hr
  ihave #HIr := (recs_inv m K (peer c, .inr (2, k))) $$ Hr
  ihave #Hv := (recs_reached m K (peer c, .inr (2, k))) $$ Hr
  rw [owed_send]
  ihave Hq' := (Entails.of_eq (congrArg (fun S => ((c : Thread nD τ).loc cc0_scratch1) ↦[S]{fullShare} qG m c) (sendM_set k).symm)) $$ Hq
  ihave Hb' := (Entails.of_eq (congrArg (fun S => ((peer c : Thread nD τ).loc cc0_scratch2) ↦[S]{fullShare} f) (recvM_set k).symm)) $$ Hb
  iapply (Rounds.wp_send_pointsTo 𝒱₀ ER (Rd m) (c : Thread nD τ) none (κ₁ := K (c, .inr (1, k))) (κ₂ := K (peer c, .inr (2, k)))
      (r₁ := 0) (r₂ := 0) (d₁ := ()) (d₂ := ()) (fd := f) (c' := (peer c : Thread nD τ)) (src := sendM k)
      (dst := (recvM k : Memref sig (peer c : Thread nD τ).2.kind .vmem S128x512 .i8)) (fs := qG m c)
      (duty_mem m c (.inr (1, k))) (duty_mem m (peer c) (.inr (2, k))) () () NQ (recvM_credit k) (amt_send k) (amt_recv k)
      (owed c (7 - k.val)) rfl (W := W)
      (by rw [sendM_set]; exact Entails.of_eq (pay_send m c k).symm)
      ((landed_recv m c k f).trans (Entails.of_eq (pay_recv m (peer c) k).symm))) $$ [Hq' Hb' HO HtS HtR]
  · isplitr; · iexact HIs
    isplitr; · iexact HIr
    isplitl [Hq']; · iexact Hq'
    isplitl [Hb']; · iexact Hb'
    isplitl [HO]; · iexact HO
    isplitl [HtS]; · iexact HtS
    isplitr; · iexact Hs
    isplitl [HtR]; · iexact HtR
    iexact Hv
  iintro ⟨HcS, HO⟩
  iapply Hk
  isplitr [HO]
  · isplitl [Hh]; · iexact Hh
    isplitr [Ho]
    · isplitl [HcS]; · iexact HcS
      isplitl [HaS]; · iexact HaS
      isplitl [HaR] <;> iassumption
    iexact Ho
  iexists W; iexact HO

end Moves

/-! ## Loads and stores -/

section Local
variable {α : Type} (c : Dev nD) (k : Fin 8)

abbrev inB : Memref sig .tc .vmem S8x128x1024 .bf16 := Memref.whole cc0_scratch0
abbrev sendB : Memref sig .tc .vmem S8x128x512 .i8 := Memref.whole cc0_scratch1
abbrev recvB : Memref sig .tc .vmem S8x128x512 .i8 := Memref.whole cc0_scratch2
abbrev outB : Memref sig .tc .vmem S1024x512 .bf16 := Memref.whole cc0_stg0_0

theorem access_set (b : Ref sig .tc) (r : Rect b.ty.shape) : ((Memref.whole b).access r).set = r.set :=
  View.set_slice_whole b r

theorem load_in {hl : (inB).view.LoadsAt (bR k).toLoadRect} {kk : Vec F S1x128x1024 .bf16 → Prog (TpuEff nD τ sig (Elt F) Λ₀ .tc) α} {Q : α → sProp 𝕄} :
    inPts m c k ⊢ iprop((inPts m c k -∗ wp frame (wpE (defs₀ (F := F)) 𝒱₀ (c : Thread nD τ) none) Set.univ (kk (xc m c k)) Q)
      -∗ wp frame (wpE (defs₀ (F := F)) 𝒱₀ (c : Thread nD τ) none) Set.univ (.op (.load inB (bR k).toLoadRect hl) kk) Q) := by
  unfold inPts
  iintro H Hk
  iapply (wp_load_rect 𝒱₀ (c : Thread nD τ) none Set.univ (m := inB) (r := bR k) (by rw [access_set])) $$ H
  iintro H
  rw [show (inB.access (bR k)).read (Elt F) (inG m c) = xc m c k from funext fun j => inG_emb m c k j]
  iapply Hk $$ H

theorem load_recv {hl : (recvB).view.LoadsAt (hR k).toLoadRect} {kk : Vec F S1x128x512 .i8 → Prog (TpuEff nD τ sig (Elt F) Λ₀ .tc) α} {Q : α → sProp 𝕄} :
    St5 m c k ⊢ iprop((St5 m c k -∗ wp frame (wpE (defs₀ (F := F)) 𝒱₀ (c : Thread nD τ) none) Set.univ (kk (qc m (peer c) k)) Q)
      -∗ wp frame (wpE (defs₀ (F := F)) 𝒱₀ (c : Thread nD τ) none) Set.univ (.op (.load recvB (hR k).toLoadRect hl) kk) Q) := by
  unfold St5 rPts
  iintro ⟨Hh, HS, ⟨HR, Ha⟩, Ho⟩ Hk
  iapply (wp_load_rect 𝒱₀ (c : Thread nD τ) none Set.univ (m := recvB) (r := hR k) (by rw [access_set])) $$ HR
  iintro HR
  rw [show (recvB.access (hR k)).read (Elt F) (qG m (peer c)) = qc m (peer c) k from funext fun j => qG_emb m (peer c) k j]
  iapply Hk
  isplitl [Hh]; · iexact Hh
  isplitl [HS]; · iexact HS
  isplitl [HR Ha]; · isplitl [HR] <;> iassumption
  iexact Ho

theorem written_send (w : Vec F S1x128x512 .i8) (hw : w = qc m c k) (f : Buf (Elt F) ((c : Thread nD τ).loc cc0_scratch1)) :
    (((sendB.access (hR k)).loc (c : Thread nD τ) ↦[(hR k).set]{fullShare} (sendB.access (hR k)).write (Elt F) f w Finset.univ) : sProp 𝕄)
      = qPts m c k :=
  pointsTo_congr fun i hi => write_agree (sendB.access (hR k)) f (qG m c) w (hw ▸ funext fun j => qG_emb m c k j) i
    (by rw [access_set]; exact hi)

theorem written_out (w : Vec F S128x512 .bf16) (hw : w = oc m c k) (f : Buf (Elt F) ((c : Thread nD τ).loc cc0_stg0_0)) :
    (((outB.access (oR k)).loc (c : Thread nD τ) ↦[(oR k).set]{fullShare} (outB.access (oR k)).write (Elt F) f w Finset.univ) : sProp 𝕄)
      = oPts m c k :=
  pointsTo_congr fun i hi => write_agree (outB.access (oR k)) f (outG m c) w (hw ▸ funext fun j => outG_emb m c k j) i
    (by rw [access_set]; exact hi)

/-- The chunk's other half is quantised into the buffer of codes. -/
theorem step_quant {pay : Vec F S1x128x1024 .bf16 → Vec F S1x128x512 .i8} (hw : pay (xc m c k) = qc m c k)
    {hl : (inB).view.LoadsAt (bR k).toLoadRect} {hl' : (sendB).view.LoadsAt (hR k).toLoadRect}
    {hx : (sendB.access (hR k)).Stores Finset.univ} {hm : (Finset.univ : Finset (hR k).shape.Idx) = Finset.univ ∨ ∀ a, (hR k).stride a = 1}
    {kk : PUnit → Prog (TpuEff nD τ sig (Elt F) Λ₀ .tc) α} {Q : α → sProp 𝕄} :
    St2 m c k ⊢ iprop((St3 m c k -∗ wp frame (wpE (defs₀ (F := F)) 𝒱₀ (c : Thread nD τ) none) Set.univ (kk ⟨⟩) Q)
      -∗ wp frame (wpE (defs₀ (F := F)) 𝒱₀ (c : Thread nD τ) none) Set.univ
        (.op (.load inB (bR k).toLoadRect hl) fun v => .op (.load sendB (hR k).toLoadRect hl') fun _ =>
          .op (.store sendB (hR k) (pay v) Finset.univ hx hm) kk) Q) := by
  unfold St2 St3 Held qAny
  iintro ⟨⟨Hx, Hb, Ha⟩, HL, ⟨%f, Hq⟩, Ho⟩ Hk
  iapply (load_in m c k) $$ Hb
  iintro Hb
  iapply (wp_load_rect 𝒱₀ (c : Thread nD τ) none Set.univ (m := sendB) (r := hR k) (by rw [access_set])) $$ Hq
  iintro Hq
  iapply (wp_store 𝒱₀ (c : Thread nD τ) none Set.univ (m := sendB) (r := hR k) (Mk := Finset.univ)
    (le_of_eq (access_set cc0_scratch1 (hR k)))) $$ Hq
  iintro Hq
  ihave Hq' := (Entails.of_eq (written_send m c k (pay (xc m c k)) hw f)) $$ Hq
  iapply Hk
  isplitl [Hx Hb Ha]
  · isplitl [Hx]; · iexact Hx
    isplitl [Hb]; · iexact Hb
    iexact Ha
  isplitl [HL]; · iexact HL
  isplitl [Hq']; · iexact Hq'
  iexact Ho

/-- The chunk's rows of the result are written. -/
theorem step_out {pay : Vec F S1x128x1024 .bf16 → Vec F S128x512 .bf16} (hw : pay (xc m c k) = oc m c k)
    {hl : (inB).view.LoadsAt (bR k).toLoadRect} {hl' : (outB).view.LoadsAt (oR k).toLoadRect}
    {hx : (outB.access (oR k)).Stores Finset.univ} {hm : (Finset.univ : Finset (oR k).shape.Idx) = Finset.univ ∨ ∀ a, (oR k).stride a = 1}
    {kk : PUnit → Prog (TpuEff nD τ sig (Elt F) Λ₀ .tc) α} {Q : α → sProp 𝕄} :
    St5 m c k ⊢ iprop((St6 m c k -∗ wp frame (wpE (defs₀ (F := F)) 𝒱₀ (c : Thread nD τ) none) Set.univ (kk ⟨⟩) Q)
      -∗ wp frame (wpE (defs₀ (F := F)) 𝒱₀ (c : Thread nD τ) none) Set.univ
        (.op (.load inB (bR k).toLoadRect hl) fun v => .op (.load outB (oR k).toLoadRect hl') fun _ =>
          .op (.store outB (oR k) (pay v) Finset.univ hx hm) kk) Q) := by
  unfold St5 St6 Held oAny
  iintro ⟨⟨Hx, Hb, Ha⟩, HS, HR, ⟨%f, Ho⟩⟩ Hk
  iapply (load_in m c k) $$ Hb
  iintro Hb
  iapply (wp_load_rect 𝒱₀ (c : Thread nD τ) none Set.univ (m := outB) (r := oR k) (by rw [access_set])) $$ Ho
  iintro Ho
  iapply (wp_store 𝒱₀ (c : Thread nD τ) none Set.univ (m := outB) (r := oR k) (Mk := Finset.univ)
    (le_of_eq (access_set cc0_stg0_0 (oR k)))) $$ Ho
  iintro Ho
  ihave Ho' := (Entails.of_eq (written_out m c k (pay (xc m c k)) hw f)) $$ Ho
  iapply Hk
  isplitl [Hx Hb Ha]
  · isplitl [Hx]; · iexact Hx
    isplitl [Hb]; · iexact Hb
    iexact Ha
  isplitl [HS]; · iexact HS
  isplitl [HR]; · iexact HR
  iexact Ho'

end Local

/-! ## The barrier -/

section Bar
variable {α : Type} (c : Dev nD)

/-- The peer is told that the landing slices are free, and gets them. -/
theorem step_signal (n : Dev nD) (hn : n = peer c) {kk : PUnit → Prog (TpuEff nD τ sig (Elt F) Λ₀ .tc) α} {Q : α → sProp 𝕄} :
    iprop(recs m K ∗ tok (barCell (peer c)) ∗ (bigSep Finset.univ fun k : Fin 8 => rAny (F := F) c k) ∗ Owing c (O₀ c))
      ⊢ iprop((Owing c (owed c 8) -∗ wp frame (wpE (defs₀ (F := F)) 𝒱₀ (c : Thread nD τ) none) Set.univ (kk ⟨⟩) Q)
        -∗ wp frame (wpE (defs₀ (F := F)) 𝒱₀ (c : Thread nD τ) none) Set.univ
          (.op (.semSignal (n : Thread nD τ) barS (1#32).toInt.toNat) kk) Q) := by
  subst hn
  unfold Owing
  iintro ⟨#Hr, Ht, Hp, ⟨%W, HO⟩⟩ Hk
  ihave #HI := (recs_inv m K (peer c, .inl ())) $$ Hr
  ihave #Hat := (recs_reached m K (peer c, .inl ())) $$ Hr
  iapply (Rounds.wp_signal 𝒱₀ ER (Rd m) (c : Thread nD τ) none (dst := (peer c : Thread nD τ)) (κ := K (peer c, .inl ()))
      (d := ()) (duty_mem m (peer c) (.inl ())) rfl () (owed c 8) rfl) $$ [HO Ht Hp]
  · isplitr; · iexact HI
    isplitl [HO]; · iexact HO
    isplitl [Ht]; · iexact Ht
    isplitl [Hp]
    · rw [show (Rd m).payload (barCell (peer c)) 0 () = barPay (peer c) from rfl]
      unfold barPay; rw [peer_peer]; iexact Hp
    iexact Hat
  iintro HO
  iapply Hk
  iexists W; iexact HO

/-- The peer's landing slices are free, and held. -/
theorem step_waitBar {kk : PUnit → Prog (TpuEff nD τ sig (Elt F) Λ₀ .tc) α} {Q : α → sProp 𝕄} :
    iprop(recs m K ∗ levAts L lv ∗ cred (tallyAt (barCell c) () 1) ∗ at0 (barCell c) ∗ Owing c (owed c 8))
      ⊢ iprop((((bigSep Finset.univ fun k : Fin 8 => rAny (F := F) (peer c) k) ∗ at1 (barCell c) ∗ Owing c (owed c 8))
          -∗ wp frame (wpE (defs₀ (F := F)) 𝒱₀ (c : Thread nD τ) none) Set.univ (kk ⟨⟩) Q)
        -∗ wp frame (wpE (defs₀ (F := F)) 𝒱₀ (c : Thread nD τ) none) Set.univ
          (.op (.semWait barS (1#32).toInt.toNat) kk) Q) := by
  unfold Owing
  iintro ⟨#Hr, #Hlev, Hc, Ha, ⟨%W, HO⟩⟩ Hk
  ihave #HI := (recs_inv m K (c, .inl ())) $$ Hr
  iapply (Rounds.wp_wait_rest_token 𝒱₀ ER (Rd m) (c : Thread nD τ) none (κ := K (c, .inl ()))
      (wpE_semWait_eq 𝒱₀ (c : Thread nD τ) none Set.univ) (Set.mem_univ _) () (O := owed c 8) (W := W) (R := 0) (m := 0) (T := ∅)
      ((expect_kcell m c (.inl ())).symm)) $$ [Hc HO Ha]
  · isplitr; · iexact HI
    isplitl [Hc]; · iexact Hc
    isplitl [HO]; · iexact HO
    isplitr; · iapply (mayWait_owed c (.reg barS) 8 (by decide)); iexact Hlev
    iexact Ha
  iintro ⟨HO, Ha, -, Hp⟩
  iapply Hk
  isplitl [Hp]
  · iapply (Entails.of_eq (show _ = bigSep Finset.univ (fun k : Fin 8 => rAny (F := F) (peer c) k) from rest_kcell m c (.inl ()))) $$ Hp
  isplitl [Ha]; · iexact Ha
  iexists _; iexact HO

end Bar

/-! ## The cells close -/

/-- Every semaphore of a finished chunk is the device's again, at zero. -/
theorem close_chunk (c : Dev nD) (k : Fin 8) : iprop(recs m K ∗ St7 m c k) ⊢
    |={(Set.univ : Set ℕ)}=> iprop((xPts m c k ∗ inPts m c k ∗ qPts m c k ∗ rPts m c k ∗ oPts m c k)
      ∗ semVal (inCell c k) 0 ∗ semVal (sendCell c k) 0 ∗ semVal (recvCell c k) 0) := by
  unfold St7 Held
  iintro ⟨#Hr, ⟨Hx, Hb, HaI⟩, ⟨Hq, HaS⟩, ⟨HR, HaR⟩, Ho⟩
  ihave #HI := (recs_inv m K (c, .inr (0, k))) $$ Hr
  ihave #HS := (recs_inv m K (c, .inr (1, k))) $$ Hr
  ihave #HV := (recs_inv m K (c, .inr (2, k))) $$ Hr
  imod (Rounds.cell_close ER (Rd m) (Set.mem_univ (K (c, .inr (0, k)))) (fun h => h) (R := 0 + 1) (duties_later m (inCell c k))) $$ [HaI] with HzI
  · isplitr; · iexact HI
    iexact HaI
  imod (Rounds.cell_close ER (Rd m) (Set.mem_univ (K (c, .inr (1, k)))) (fun h => h) (R := 0 + 1) (duties_later m (sendCell c k))) $$ [HaS] with HzS
  · isplitr; · iexact HS
    iexact HaS
  imod (Rounds.cell_close ER (Rd m) (Set.mem_univ (K (c, .inr (2, k)))) (fun h => h) (R := 0 + 1) (duties_later m (recvCell c k))) $$ [HaR] with HzR
  · isplitr; · iexact HV
    iexact HaR
  imodintro
  isplitl [Hx Hb Hq HR Ho]
  · isplitl [Hx]; · iexact Hx
    isplitl [Hb]; · iexact Hb
    isplitl [Hq]; · iexact Hq
    isplitl [HR]; · iexact HR
    iexact Ho
  isplitl [HzI]; · iexact HzI
  isplitl [HzS]; · iexact HzS
  iexact HzR

theorem close_bar (c : Dev nD) : iprop(recs m K ∗ at1 (barCell c)) ⊢ |={(Set.univ : Set ℕ)}=> semVal (barCell c) 0 := by
  iintro ⟨#Hr, Ha⟩
  ihave #HI := (recs_inv m K (c, .inl ())) $$ Hr
  imod (Rounds.cell_close ER (Rd m) (Set.mem_univ (K (c, .inl ()))) (fun h => h) (R := 0 + 1) (duties_later m (barCell c))) $$ [Ha] with Hz
  · isplitr; · iexact HI
    iexact Ha
  imodintro
  iexact Hz

end Cert.KernelIdeal.Exch

end
-- ==== Proof.KernelIdeal.Body.lean ====
/-
# The body, run once

The body is a straight line of eight copies in, the barrier, eight sends, eight results and eight waits for the sends.
Each of these is one lemma over a symbolic chunk; the run applies them in program order.
-/
module

public import proofs.«01_k».proof.Proof.KernelIdeal.Steps

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Ci → ℕ)

/-- A program's run on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Phases
variable {α : Type} (c : Dev nD) (k : Fin 8)

theorem run_copy {hs : (xM k).view.WordExact} {hd : (inM k).view.WordExact}
    {ht : DmaTarget.Typed (nD := nD) (τ := τ) (p := Proc.tc) .hbm (.dma (inSem k)) (.here (inM k))}
    {kk : PUnit → Prog (TpuEff nD τ sig (Elt F) Λ₀ .tc) α} {Q : α → sProp 𝕄} :
    recs m K ⊢ iprop(St0 m c k -∗ (St1 (F := F) c k -∗ run c (kk ⟨⟩) Q)
      -∗ run c (.op (.enqueueDma (xM k) (.here (inM k)) (.dma (inSem k)) hs hd ht) kk) Q) := by
  iintro Hr HS
  iapply (step_copy m K c k) $$ [Hr HS]
  isplitl [Hr]; · iexact Hr
  iexact HS

/-- Wait for the chunk, quantise its other half, and send it. -/
theorem run_send (a : ℕ) (ha : a = 7 - k.val) (n : Dev nD) (hn : n = peer c)
    {pay : Vec F S1x128x1024 .bf16 → Vec F S1x128x512 .i8} (hw : pay (xc m c k) = qc m c k)
    {ws : (xM k).view.WordExact} {wd : (inM k).view.WordExact}
    {hl : (inB).view.LoadsAt (bR k).toLoadRect} {hl' : (sendB).view.LoadsAt (hR k).toLoadRect}
    {hx : (sendB.access (hR k)).Stores Finset.univ} {hm : (Finset.univ : Finset (hR k).shape.Idx) = Finset.univ ∨ ∀ a, (hR k).stride a = 1}
    {hsc : (recvM k : Memref sig (Dev.tc n : Thread nD τ).2.kind .vmem S128x512 .i8).view.ref.isScScratch = false}
    {hs : (sendM k).view.WordExact} {hd : (recvM k).view.WordExact}
    {ht : DmaTarget.Typed (nD := nD) (τ := τ) (p := Proc.tc) .vmem (.dma (recvSem k)) (.remote (Dev.tc n : Thread nD τ) (recvM k : Memref sig (Dev.tc n : Thread nD τ).2.kind .vmem S128x512 .i8) (.dma (sendSem k)) hsc)}
    {kk : PUnit → Prog (TpuEff nD τ sig (Elt F) Λ₀ .tc) α} {Q : α → sProp 𝕄} :
    recs m K ⊢ iprop(levAts L lv -∗ St1 (F := F) c k -∗ rAny (F := F) (peer c) k -∗ Owing c (owed c (a + 1))
      -∗ ((St4 m c k ∗ Owing c (owed c a)) -∗ run c (kk ⟨⟩) Q)
      -∗ run c (.op (.waitDma2 (inSem k) (xM k) (inM k) ws wd) fun _ =>
          .op (.load inB (bR k).toLoadRect hl) fun v => .op (.load sendB (hR k).toLoadRect hl') fun _ =>
          .op (.store sendB (hR k) (pay v) Finset.univ hx hm) fun _ =>
          .op (.enqueueDma (sendM k) (.remote (Dev.tc n : Thread nD τ) (recvM k) (.dma (sendSem k)) hsc) (.dma (recvSem k)) hs hd ht) kk) Q) := by
  subst ha
  rw [show 7 - k.val + 1 = 8 - k.val by have := k.isLt; omega]
  iintro #Hr #Hlev HS HR HO Hk
  iapply (step_waitIn m K c k (8 - k.val)) $$ [HS HO]
  · isplitr; · iexact Hr
    isplitr; · iexact Hlev
    isplitl [HS]; · iexact HS
    iexact HO
  iintro ⟨HS, HO⟩
  iapply (step_quant m c k hw) $$ HS
  iintro HS
  iapply (step_send m K c k n hn) $$ [HS HR HO]
  · isplitr; · iexact Hr
    isplitl [HS]; · iexact HS
    isplitl [HR]; · iexact HR
    iexact HO
  iexact Hk

/-- Wait for the peer's codes, and write the chunk's rows of the result. -/
theorem run_result {pay : Vec F S1x128x512 .i8 → Vec F S1x128x1024 .bf16 → Vec F S128x512 .bf16}
    (hw : pay (qc m (peer c) k) (xc m c k) = oc m c k)
    {ws : (sendM k).view.WordExact} {wd : (recvM k).view.WordExact} {hr : (recvB).view.LoadsAt (hR k).toLoadRect}
    {hl : (inB).view.LoadsAt (bR k).toLoadRect} {hl' : (outB).view.LoadsAt (oR k).toLoadRect}
    {hx : (outB.access (oR k)).Stores Finset.univ} {hm : (Finset.univ : Finset (oR k).shape.Idx) = Finset.univ ∨ ∀ a, (oR k).stride a = 1}
    {kk : Vec F S1x128x512 .i8 → PUnit → Prog (TpuEff nD τ sig (Elt F) Λ₀ .tc) α} {Q : α → sProp 𝕄} :
    recs m K ⊢ iprop(levAts L lv -∗ St4 m c k -∗ Owing c (owed c 0)
      -∗ ((St6 m c k ∗ Owing c (owed c 0)) -∗ run c (kk (qc m (peer c) k) ⟨⟩) Q)
      -∗ run c (.op (.waitDma2 (recvSem k) (sendM k) (recvM k) ws wd) fun _ =>
          .op (.load recvB (hR k).toLoadRect hr) fun u =>
          .op (.load inB (bR k).toLoadRect hl) fun v => .op (.load outB (oR k).toLoadRect hl') fun _ =>
          .op (.store outB (oR k) (pay u v) Finset.univ hx hm) (kk u)) Q) := by
  iintro #Hr #Hlev HS HO Hk
  iapply (step_waitRecv m K c k) $$ [HS HO]
  · isplitr; · iexact Hr
    isplitr; · iexact Hlev
    isplitl [HS]; · iexact HS
    iexact HO
  iintro ⟨HS, HO⟩
  iapply (load_recv m c k) $$ HS
  iintro HS
  iapply (step_out m c k (pay := pay (qc m (peer c) k)) hw) $$ HS
  iintro HS
  iapply Hk
  isplitl [HS]; · iexact HS
  iexact HO

theorem run_done {hs : (recvM k).view.WordExact} {hd : (sendM k).view.WordExact}
    {kk : PUnit → Prog (TpuEff nD τ sig (Elt F) Λ₀ .tc) α} {Q : α → sProp 𝕄} :
    recs m K ⊢ iprop(levAts L lv -∗ St6 m c k -∗ Owing c (owed c 0)
      -∗ ((St7 m c k ∗ Owing c (owed c 0)) -∗ run c (kk ⟨⟩) Q)
      -∗ run c (.op (.waitDma2 (sendSem k) (recvM k) (sendM k) hs hd) kk) Q) := by
  iintro Hr Hlev HS HO
  iapply (step_waitSend m K c k) $$ [Hr Hlev HS HO]
  isplitl [Hr]; · iexact Hr
  isplitl [Hlev]; · iexact Hlev
  isplitl [HS]; · iexact HS
  iexact HO

end Phases

/-- A conjunction over the chunks, written out. -/
theorem chunks (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide) Φ]
  rfl

/-- What a device starts the body with. -/
def Begin (c : Dev nD) : sProp 𝕄 :=
  iprop((recs m K ∗ levAts L lv)
    ∗ (cred (tallyAt (barCell c) () 1) ∗ at0 (barCell c) ∗ tok (barCell (peer c)))
    ∗ (bigSep Finset.univ fun k : Fin 8 => St0 m c k) ∗ (bigSep Finset.univ fun k : Fin 8 => rAny (F := F) c k)
    ∗ Owing c (O₀ c))

/-- What it ends with. -/
def End (c : Dev nD) : sProp 𝕄 :=
  iprop((bigSep Finset.univ fun k : Fin 8 => iprop((xPts m c k ∗ inPts m c k ∗ qPts m c k ∗ rPts m c k ∗ oPts m c k)
      ∗ semVal (inCell c k) 0 ∗ semVal (sendCell c k) 0 ∗ semVal (recvCell c k) 0))
    ∗ semVal (barCell c) 0 ∗ Owing c 0)

/-- The device-side value of the branch condition `y = b`. -/
abbrev branch (c : Dev nD) (b : BitVec 32) : Prop :=
  Scalar.cmpi .ne (Scalar.extui (Scalar.cmpi .eq (Scalar.remsi (Scalar.divsi c.word 4#32) 2#32) b)) 0#32 = 1#1

theorem branch_low (c : Dev nD) : branch c 0#32 ↔ Low c := by revert c; decide
theorem branch_high (c : Dev nD) : branch c 1#32 ↔ ¬ Low c := by revert c; decide

theorem dev_peer (c : Dev nD) {n : ℕ} (h : n < nD) (e : n = (8 * (c.val / 8) + c.val % 4 + 4) - 4 * ((c.val / 4) % 2)) :
    (⟨n, h⟩ : Dev nD) = peer c := Fin.ext e

/-- Once every chunk is done, all semaphores are the device's again, at zero. -/
theorem close_all (c : Dev nD) :
    iprop(recs m K ∗ (bigSep Finset.univ fun k : Fin 8 => St7 m c k) ∗ at1 (barCell c) ∗ Owing c (owed c 0))
      ⊢ |={(Set.univ : Set ℕ)}=> End m c := by
  unfold End
  iintro ⟨#Hr, HS, Ha, HO⟩
  imod (close_bar m K c) $$ [Ha] with Hz
  · isplitr; · iexact Hr
    iexact Ha
  imod ((bigSep_with_persistent (fun k _ => close_chunk m K c k)).trans (bigSep_fupd _ _)) $$ [HS] with HS
  · isplitr; · iexact Hr
    iexact HS
  imodintro
  isplitl [HS]; · iexact HS
  isplitl [Hz]; · iexact Hz
  iexact HO

set_option maxHeartbeats 4000000 in
/-- The body on device `c`. -/
theorem run_body (c : Dev nD) (Q : PUnit → sProp 𝕄) :
    iprop(Begin m K c ∗ (End m c -∗ Q ⟨⟩))
      ⊢ run c (cc0_body (Memref.whole main_arg0) (Memref.isWhole_whole _) (Memref.whole cc0_stg0_0) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5) Q := by
  simp only [cc0_body_eq_skeleton]; unfold cc0_body_skel
  simp only [k0_part18_eq_skeleton]; unfold k0_part18_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  unfold Begin
  rw [chunks (fun k => St0 m c k)]
  rcases Classical.em (Low c) with h | h
  all_goals
    first
    | simp only [semSignalWord, semWaitWord, Prog.lift, Prog.bind_op, Prog.bind_ret, Prog.pure_eq_ret, Prog.bind_assoc, wp_deviceId,
        dif_pos ((branch_low c).mpr h), dif_neg (fun e => (branch_high c).mp e h)]
    | simp only [semSignalWord, semWaitWord, Prog.lift, Prog.bind_op, Prog.bind_ret, Prog.pure_eq_ret, Prog.bind_assoc, wp_deviceId,
        dif_neg (fun e => h ((branch_low c).mp e)), dif_pos ((branch_high c).mpr h)]
    iintro ⟨⟨⟨#Hr, #Hlev⟩, ⟨Hc, Ha, Ht⟩, ⟨S0, S1, S2, S3, S4, S5, S6, S7⟩, HR, HO⟩, Hk⟩
    iapply (run_copy m K c 0) $$ Hr S0; iintro S0
    iapply (run_copy m K c 1) $$ Hr S1; iintro S1
    iapply (run_copy m K c 2) $$ Hr S2; iintro S2
    iapply (run_copy m K c 3) $$ Hr S3; iintro S3
    iapply (run_copy m K c 4) $$ Hr S4; iintro S4
    iapply (run_copy m K c 5) $$ Hr S5; iintro S5
    iapply (run_copy m K c 6) $$ Hr S6; iintro S6
    iapply (run_copy m K c 7) $$ Hr S7; iintro S7
    iapply (step_signal m K c _ (dev_peer c _ (k0_dev1_eq c))) $$ [Ht HR HO]
    · isplitr; · iexact Hr
      isplitl [Ht]; · iexact Ht
      isplitl [HR]; · iexact HR
      iexact HO
    iintro HO
    iapply (step_waitBar m K c) $$ [Hc Ha HO]
    · isplitr; · iexact Hr
      isplitr; · iexact Hlev
      isplitl [Hc]; · iexact Hc
      isplitl [Ha]; · iexact Ha
      iexact HO
    iintro ⟨HR, Ha, HO⟩
    ihave HR' := (Entails.of_eq (chunks fun k => rAny (F := F) (peer c) k)) $$ HR
    icases HR' with ⟨R0, R1, R2, R3, R4, R5, R6, R7⟩
    iapply (run_send m K c 0 7 rfl _ (dev_peer c _ (k0_dev2_eq c)) (by first | exact (if_pos h).symm | exact (if_neg h).symm)) $$ Hr Hlev S0 R0 HO; iintro ⟨S0, HO⟩
    iapply (run_send m K c 1 6 rfl _ (dev_peer c _ (k0_dev3_eq c)) (by first | exact (if_pos h).symm | exact (if_neg h).symm)) $$ Hr Hlev S1 R1 HO; iintro ⟨S1, HO⟩
    iapply (run_send m K c 2 5 rfl _ (dev_peer c _ (k0_dev4_eq c)) (by first | exact (if_pos h).symm | exact (if_neg h).symm)) $$ Hr Hlev S2 R2 HO; iintro ⟨S2, HO⟩
    iapply (run_send m K c 3 4 rfl _ (dev_peer c _ (k0_dev5_eq c)) (by first | exact (if_pos h).symm | exact (if_neg h).symm)) $$ Hr Hlev S3 R3 HO; iintro ⟨S3, HO⟩
    iapply (run_send m K c 4 3 rfl _ (dev_peer c _ (k0_dev6_eq c)) (by first | exact (if_pos h).symm | exact (if_neg h).symm)) $$ Hr Hlev S4 R4 HO; iintro ⟨S4, HO⟩
    iapply (run_send m K c 5 2 rfl _ (dev_peer c _ (k0_dev7_eq c)) (by first | exact (if_pos h).symm | exact (if_neg h).symm)) $$ Hr Hlev S5 R5 HO; iintro ⟨S5, HO⟩
    iapply (run_send m K c 6 1 rfl _ (dev_peer c _ (k0_dev8_eq c)) (by first | exact (if_pos h).symm | exact (if_neg h).symm)) $$ Hr Hlev S6 R6 HO; iintro ⟨S6, HO⟩
    iapply (run_send m K c 7 0 rfl _ (dev_peer c _ (k0_dev9_eq c)) (by first | exact (if_pos h).symm | exact (if_neg h).symm)) $$ Hr Hlev S7 R7 HO; iintro ⟨S7, HO⟩
    iapply (run_result m K c 0 (by first | exact (if_pos h).symm | exact (if_neg h).symm)) $$ Hr Hlev S0 HO; iintro ⟨S0, HO⟩
    iapply (run_result m K c 1 (by first | exact (if_pos h).symm | exact (if_neg h).symm)) $$ Hr Hlev S1 HO; iintro ⟨S1, HO⟩
    iapply (run_result m K c 2 (by first | exact (if_pos h).symm | exact (if_neg h).symm)) $$ Hr Hlev S2 HO; iintro ⟨S2, HO⟩
    iapply (run_result m K c 3 (by first | exact (if_pos h).symm | exact (if_neg h).symm)) $$ Hr Hlev S3 HO; iintro ⟨S3, HO⟩
    iapply (run_result m K c 4 (by first | exact (if_pos h).symm | exact (if_neg h).symm)) $$ Hr Hlev S4 HO; iintro ⟨S4, HO⟩
    iapply (run_result m K c 5 (by first | exact (if_pos h).symm | exact (if_neg h).symm)) $$ Hr Hlev S5 HO; iintro ⟨S5, HO⟩
    iapply (run_result m K c 6 (by first | exact (if_pos h).symm | exact (if_neg h).symm)) $$ Hr Hlev S6 HO; iintro ⟨S6, HO⟩
    iapply (run_result m K c 7 (by first | exact (if_pos h).symm | exact (if_neg h).symm)) $$ Hr Hlev S7 HO; iintro ⟨S7, HO⟩
    iapply (run_done m K c 0) $$ Hr Hlev S0 HO; iintro ⟨S0, HO⟩
    iapply (run_done m K c 1) $$ Hr Hlev S1 HO; iintro ⟨S1, HO⟩
    iapply (run_done m K c 2) $$ Hr Hlev S2 HO; iintro ⟨S2, HO⟩
    iapply (run_done m K c 3) $$ Hr Hlev S3 HO; iintro ⟨S3, HO⟩
    iapply (run_done m K c 4) $$ Hr Hlev S4 HO; iintro ⟨S4, HO⟩
    iapply (run_done m K c 5) $$ Hr Hlev S5 HO; iintro ⟨S5, HO⟩
    iapply (run_done m K c 6) $$ Hr Hlev S6 HO; iintro ⟨S6, HO⟩
    iapply (run_done m K c 7) $$ Hr Hlev S7 HO; iintro ⟨S7, HO⟩
    imod (close_all m K c) $$ [S0 S1 S2 S3 S4 S5 S6 S7 Ha HO] with HE
    · isplitr; · iexact Hr
      isplitr [Ha HO]
      · iapply (Entails.of_eq (chunks fun k => St7 m c k).symm)
        isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      isplitl [Ha]; · iexact Ha
      iexact HO
    rw [wp_ret]; imodintro
    iapply Hk $$ HE

end Cert.KernelIdeal.Exch

end
-- ==== Proof.KernelIdeal.Run.lean ====
/-
# The launch

What a device starts its body with, made from what the launch hands it — the ghost state of the exchange, the credit
for what its peer owes it, its buffers cut into the slices of the eight chunks — and what it ends with, put together
again. `run_main` is the run of the whole program: every device's result, its argument, and every semaphore at zero.
-/
module

public import proofs.«01_k».proof.Proof.KernelIdeal.Body
public import proofs.«01_k».proof.Proof.Gen.KernelIdeal.Points
public import Idealize.ShloMosaic.Lib.Ring

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Buffers and their slices -/

/-- Slices of one axis, each holding `n` of its coordinates, one after the other: disjoint, and together everything. -/
theorem slices_disjoint {s : Shape} (R : Fin 8 → Rect s) (a : Fin s.rank) (n : ℕ)
    (h : ∀ k i, i ∈ (R k).set ↔ n * k.val ≤ (i a).val ∧ (i a).val < n * k.val + n) :
    ∀ k k', k ≠ k' → Disjoint (R k).set (R k').set := fun k k' hk => by
  rw [Finset.disjoint_left]
  intro i hi hi'
  rw [h] at hi hi'
  refine hk (Fin.ext ?_)
  have key : ∀ x y : ℕ, n * x ≤ (i a).val → (i a).val < n * x + n → n * y ≤ (i a).val → (i a).val < n * y + n → x ≤ y :=
    fun x y h1 _ _ h4 => by
      by_contra hlt
      have := Nat.mul_le_mul_left n (Nat.succ_le_of_lt (Nat.lt_of_not_le hlt))
      rw [Nat.mul_succ] at this; omega
  exact Nat.le_antisymm (key _ _ hi.1 hi.2 hi'.1 hi'.2) (key _ _ hi'.1 hi'.2 hi.1 hi.2)

theorem slices_cover {s : Shape} (R : Fin 8 → Rect s) (a : Fin s.rank) (n : ℕ) (hn : 0 < n) (hs : s.size a = n * 8)
    (h : ∀ k i, i ∈ (R k).set ↔ n * k.val ≤ (i a).val ∧ (i a).val < n * k.val + n) :
    (Finset.univ.biUnion fun k => (R k).set) = Finset.univ := by
  refine Finset.eq_univ_iff_forall.mpr fun i => ?_
  have hi : (i a).val < n * 8 := hs ▸ (i a).isLt
  refine Finset.mem_biUnion.mpr ⟨⟨(i a).val / n, (Nat.div_lt_iff_lt_mul hn).mpr (by rw [Nat.mul_comm]; exact hi)⟩, Finset.mem_univ _, ?_⟩
  rw [h]
  have := Nat.div_add_mod (i a).val n
  have := Nat.mod_lt (i a).val hn
  constructor <;> dsimp only <;> omega

theorem xR_mem (k : Fin 8) (i : S1x1024x1024.Idx) : i ∈ (xR k).set ↔ 128 * k.val ≤ (i 1).val ∧ (i 1).val < 128 * k.val + 128 := by
  rw [Rect.mem_set_unit]
  refine ⟨fun h => h 1, fun h a => ?_⟩
  match a with
  | ⟨0, _⟩ => exact ⟨Nat.zero_le _, by have : (i 0).val < 1 := (i 0).isLt; show (i 0).val < 0 + 1; omega⟩
  | ⟨1, _⟩ => exact h
  | ⟨2, _⟩ => exact ⟨Nat.zero_le _, by have : (i 2).val < 1024 := (i 2).isLt; show (i 2).val < 0 + 1024; omega⟩
theorem bR_mem (k : Fin 8) (i : S8x128x1024.Idx) : i ∈ (bR k).set ↔ 1 * k.val ≤ (i 0).val ∧ (i 0).val < 1 * k.val + 1 := by
  rw [Rect.mem_set_unit, Nat.one_mul]
  refine ⟨fun h => h 0, fun h a => ?_⟩
  match a with
  | ⟨0, _⟩ => exact h
  | ⟨1, _⟩ => exact ⟨Nat.zero_le _, by have : (i 1).val < 128 := (i 1).isLt; show (i 1).val < 0 + 128; omega⟩
  | ⟨2, _⟩ => exact ⟨Nat.zero_le _, by have : (i 2).val < 1024 := (i 2).isLt; show (i 2).val < 0 + 1024; omega⟩
theorem hR_mem (k : Fin 8) (i : S8x128x512.Idx) : i ∈ (hR k).set ↔ 1 * k.val ≤ (i 0).val ∧ (i 0).val < 1 * k.val + 1 := by
  rw [Rect.mem_set_unit, Nat.one_mul]
  refine ⟨fun h => h 0, fun h a => ?_⟩
  match a with
  | ⟨0, _⟩ => exact h
  | ⟨1, _⟩ => exact ⟨Nat.zero_le _, by have : (i 1).val < 128 := (i 1).isLt; show (i 1).val < 0 + 128; omega⟩
  | ⟨2, _⟩ => exact ⟨Nat.zero_le _, by have : (i 2).val < 512 := (i 2).isLt; show (i 2).val < 0 + 512; omega⟩
theorem oR_mem (k : Fin 8) (i : S1024x512.Idx) : i ∈ (oR k).set ↔ 128 * k.val ≤ (i 0).val ∧ (i 0).val < 128 * k.val + 128 := by
  rw [Rect.mem_set_unit]
  refine ⟨fun h => h 0, fun h a => ?_⟩
  match a with
  | ⟨0, _⟩ => exact h
  | ⟨1, _⟩ => exact ⟨Nat.zero_le _, by have : (i 1).val < 512 := (i 1).isLt; show (i 1).val < 0 + 512; omega⟩

section Cut
variable (c : Dev nD)

theorem xR_disjoint : ∀ k k' : Fin 8, k ≠ k' → Disjoint (xR k).set (xR k').set := slices_disjoint xR 1 128 xR_mem
theorem xR_cover : (Finset.univ.biUnion fun k : Fin 8 => (xR k).set) = Finset.univ := slices_cover xR 1 128 (by decide) (by decide) xR_mem
theorem bR_disjoint : ∀ k k' : Fin 8, k ≠ k' → Disjoint (bR k).set (bR k').set := slices_disjoint bR 0 1 bR_mem
theorem bR_cover : (Finset.univ.biUnion fun k : Fin 8 => (bR k).set) = Finset.univ := slices_cover bR 0 1 (by decide) (by decide) bR_mem
theorem hR_disjoint : ∀ k k' : Fin 8, k ≠ k' → Disjoint (hR k).set (hR k').set := slices_disjoint hR 0 1 hR_mem
theorem hR_cover : (Finset.univ.biUnion fun k : Fin 8 => (hR k).set) = Finset.univ := slices_cover hR 0 1 (by decide) (by decide) hR_mem
theorem oR_disjoint : ∀ k k' : Fin 8, k ≠ k' → Disjoint (oR k).set (oR k').set := slices_disjoint oR 0 128 oR_mem
theorem oR_cover : (Finset.univ.biUnion fun k : Fin 8 => (oR k).set) = Finset.univ := slices_cover oR 0 128 (by decide) (by decide) oR_mem

theorem cut_x (f : Buf (Elt F) ((c : Thread nD τ).loc main_arg0)) :
    ((((c : Thread nD τ).loc main_arg0) ↦{fullShare} f : sProp 𝕄))
      = bigSep Finset.univ fun k : Fin 8 => ((c : Thread nD τ).loc main_arg0) ↦[(xR k).set]{fullShare} f :=
  Ring.pointsTo_blocks (ℓ := (c : Thread nD τ).loc main_arg0) (fun k : Fin 8 => (xR k).set) xR_disjoint xR_cover f
theorem cut_in (f : Buf (Elt F) ((c : Thread nD τ).loc cc0_scratch0)) :
    ((((c : Thread nD τ).loc cc0_scratch0) ↦{fullShare} f : sProp 𝕄))
      = bigSep Finset.univ fun k : Fin 8 => ((c : Thread nD τ).loc cc0_scratch0) ↦[(bR k).set]{fullShare} f :=
  Ring.pointsTo_blocks (ℓ := (c : Thread nD τ).loc cc0_scratch0) (fun k : Fin 8 => (bR k).set) bR_disjoint bR_cover f
theorem cut_send (f : Buf (Elt F) ((c : Thread nD τ).loc cc0_scratch1)) :
    ((((c : Thread nD τ).loc cc0_scratch1) ↦{fullShare} f : sProp 𝕄))
      = bigSep Finset.univ fun k : Fin 8 => ((c : Thread nD τ).loc cc0_scratch1) ↦[(hR k).set]{fullShare} f :=
  Ring.pointsTo_blocks (ℓ := (c : Thread nD τ).loc cc0_scratch1) (fun k : Fin 8 => (hR k).set) hR_disjoint hR_cover f
theorem cut_recv (f : Buf (Elt F) ((c : Thread nD τ).loc cc0_scratch2)) :
    ((((c : Thread nD τ).loc cc0_scratch2) ↦{fullShare} f : sProp 𝕄))
      = bigSep Finset.univ fun k : Fin 8 => ((c : Thread nD τ).loc cc0_scratch2) ↦[(hR k).set]{fullShare} f :=
  Ring.pointsTo_blocks (ℓ := (c : Thread nD τ).loc cc0_scratch2) (fun k : Fin 8 => (hR k).set) hR_disjoint hR_cover f
theorem cut_out (f : Buf (Elt F) ((c : Thread nD τ).loc cc0_stg0_0)) :
    ((((c : Thread nD τ).loc cc0_stg0_0) ↦{fullShare} f : sProp 𝕄))
      = bigSep Finset.univ fun k : Fin 8 => ((c : Thread nD τ).loc cc0_stg0_0) ↦[(oR k).set]{fullShare} f :=
  Ring.pointsTo_blocks (ℓ := (c : Thread nD τ).loc cc0_stg0_0) (fun k : Fin 8 => (oR k).set) oR_disjoint oR_cover f

/-- Held at one contents, slice by slice, each is held at some. -/
theorem each_any {ℓ : Loc nD τ sig} (I : Fin 8 → Finset ℓ.2.ty.shape.Idx) (f : Buf (Elt F) ℓ) :
    (bigSep Finset.univ fun k : Fin 8 => (ℓ ↦[I k]{fullShare} f : sProp 𝕄))
      ⊢ bigSep Finset.univ fun k : Fin 8 => iprop(∃ g : Buf (Elt F) ℓ, ℓ ↦[I k]{fullShare} g) :=
  bigSep_mono fun k _ => exists_intro (Φ := fun g : Buf (Elt F) ℓ => (ℓ ↦[I k]{fullShare} g : sProp 𝕄)) f

end Cut

/-! ## What a device starts and ends with -/

/-- A product over the transfer semaphores, by class. -/
theorem classes_eq (Φ : Fin 3 × Fin 8 → sProp 𝕄) : bigSep Finset.univ Φ
    = iprop((bigSep Finset.univ fun k : Fin 8 => Φ (0, k)) ∗ (bigSep Finset.univ fun k : Fin 8 => Φ (1, k))
        ∗ bigSep Finset.univ fun k : Fin 8 => Φ (2, k)) := by
  rw [bigSep_univ_prod, bigSep_univ_eq_bigSepL [0, 1, 2] (by decide) (by decide)]; rfl
/-- A product over a device's cells, by class. -/
theorem cells_eq (Φ : Ci → sProp 𝕄) : bigSep Finset.univ Φ
    = iprop(Φ (.inl ()) ∗ (bigSep Finset.univ fun k : Fin 8 => Φ (.inr (0, k))) ∗ (bigSep Finset.univ fun k : Fin 8 => Φ (.inr (1, k)))
        ∗ bigSep Finset.univ fun k : Fin 8 => Φ (.inr (2, k))) := by
  rw [bigSep_univ_sum, classes_eq, bigSep_univ_eq_bigSepL [()] (by decide) (by decide)]
  rfl

/-- The duties a device pays: its peer's barrier, its own copies in and sends, and its peer's landings. -/
def payToks (c : Dev nD) : sProp 𝕄 :=
  iprop(tok (barCell (peer c)) ∗ (bigSep Finset.univ fun k : Fin 8 => tok (inCell c k)) ∗ (bigSep Finset.univ fun k : Fin 8 => tok (sendCell c k))
    ∗ bigSep Finset.univ fun k : Fin 8 => tok (recvCell (peer c) k))
/-- With its position at each of its cells. -/
def linear (c : Dev nD) : sProp 𝕄 := iprop((bigSep Finset.univ fun i : Ci => at0 (kcell (c, i))) ∗ payToks c)

/-- What a device starts from, but for its scratch buffers. -/
def start (c : Dev nD) : sProp 𝕄 :=
  iprop((∃ K, recs m K ∗ linear c) ∗ (cred (tallyAt (barCell c) () 1) ∗ bigSep Finset.univ fun k : Fin 8 => cred (tallyAt (recvCell c k) () NQ))
    ∗ levAts L lv ∗ ((c : Thread nD τ).loc main_arg0) ↦{fullShare} xbuf m c)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What is left of it in the end: the argument as it was, and the semaphores at zero. -/
def rest (c : Dev nD) : sProp 𝕄 :=
  iprop((((c : Thread nD τ).loc main_arg0) ↦{fullShare} xbuf m c) ∗ semVal (barCell c) 0)
def Φ₁ (c : Dev nD) : sProp 𝕄 :=
  iprop(rest m c ∗ (bigSep Finset.univ fun j : Fin 3 × Fin 8 => semVal ((c : Thread nD τ), osem j) 0)
    ∗ (((c : Thread nD τ).loc cc0_scratch0) ↦{fullShare} inG m c) ∗ (((c : Thread nD τ).loc cc0_scratch1) ↦{fullShare} qG m c)
    ∗ (((c : Thread nD τ).loc cc0_scratch2) ↦{fullShare} qG m (peer c)))

/-- The start of the body, from these. -/
theorem begin_intro (K : Dev nD × Ci → ℕ) (c : Dev nD) :
    iprop((recs m K ∗ linear c) ∗ (cred (tallyAt (barCell c) () 1) ∗ bigSep Finset.univ fun k : Fin 8 => cred (tallyAt (recvCell c k) () NQ))
        ∗ levAts L lv ∗ (((c : Thread nD τ).loc main_arg0) ↦{fullShare} xbuf m c)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_stg0_0), ((c : Thread nD τ).loc cc0_stg0_0) ↦{fullShare} f)
        ∗ Owing c (O₀ c))
      ⊢ Begin m K c := by
  unfold Begin linear payToks St0 Link
  simp only [bigSep_sep', cells_eq]
  iintro ⟨⟨Hrecs, ⟨HaB, HaI, HaS, HaR⟩, HtB, HtI, HtS, HtR⟩, ⟨HcB, HcR⟩, Hlev, Hx, ⟨%f0, H0⟩, ⟨%f1, H1⟩, ⟨%f2, H2⟩, ⟨%fo, Ho⟩, HO⟩
  isplitl [Hrecs Hlev]
  · isplitl [Hrecs]; · iexact Hrecs
    iexact Hlev
  isplitl [HcB HaB HtB]
  · isplitl [HcB]; · iexact HcB
    isplitl [HaB]; · iexact HaB
    iexact HtB
  isplitl [HtI HaI Hx H0 HtS HtR HaS HaR HcR H1 Ho]
  · isplitl [HtI]; · iexact HtI
    isplitl [HaI]; · iexact HaI
    isplitl [Hx]; · iapply (Entails.of_eq (cut_x c (xbuf m c))); iexact Hx
    isplitl [H0]; · iapply ((Entails.of_eq (cut_in c f0)).trans (each_any _ f0)); iexact H0
    isplitl [HtS HtR HaS HaR HcR]
    · isplitl [HtS]; · iexact HtS
      isplitl [HtR]; · iexact HtR
      isplitl [HaS]; · iexact HaS
      isplitl [HaR]; · iexact HaR
      iexact HcR
    isplitl [H1]; · iapply ((Entails.of_eq (cut_send c f1)).trans (each_any _ f1)); iexact H1
    iapply ((Entails.of_eq (cut_out c fo)).trans (each_any _ fo)); iexact Ho
  isplitl [H2]; · iapply ((Entails.of_eq (cut_recv c f2)).trans (each_any _ f2)); iexact H2
  iexact HO

/-- The end of the body gives these. -/
theorem end_elim (c : Dev nD) :
    End m c ⊢ iprop(Φ₁ m c ∗ (((c : Thread nD τ).loc cc0_stg0_0) ↦{fullShare} outG m c) ∗ Owing c 0) := by
  unfold End Φ₁ rest
  rw [cut_x, cut_in, cut_send, cut_recv, cut_out, classes_eq]
  simp only [bigSep_sep']
  iintro ⟨⟨⟨Hx, H0, H1, H2, Ho⟩, HzI, HzS, HzR⟩, HzB, HO⟩
  isplitl [Hx H0 H1 H2 HzI HzS HzR HzB]
  · isplitl [Hx HzB]
    · isplitl [Hx]; · iexact Hx
      iexact HzB
    isplitl [HzI HzS HzR]
    · isplitl [HzI]; · iexact HzI
      isplitl [HzS]; · iexact HzS
      iexact HzR
    isplitl [H0]; · iexact H0
    isplitl [H1]; · iexact H1
    iexact H2
  isplitl [Ho]; · iexact Ho
  iexact HO

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outG m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The result's staging buffer, held whole at contents `X`. -/
abbrev stg (c : Dev nD) (X : Buf (Elt F) ((c : Thread nD τ).loc cc0_stg0_0)) : sProp 𝕄 :=
  iprop(∃ f : Buf (Elt F) ((c : Thread nD τ).loc cc0_stg0_0), ⌜f = X⌝ ∗ ((c : Thread nD τ).loc cc0_stg0_0) ↦{fullShare} f)

def bodyPre (c : Dev nD) : sProp 𝕄 :=
  iprop(Φ₀ m c ∗ (dats m ρ 0 c).owesAt () t0_0.castSucc ∗ (∃ d, stg c ((dats m ρ 0 c).before (0 : Fin 1) t0_0 d)))
def bodyPost (c : Dev nD) : sProp 𝕄 :=
  iprop(Φ₁ m c ∗ (dats m ρ 0 c).owesAt () t0_0.succ ∗ stg c (outG m c))

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (cc0_body (Memref.whole main_arg0) _ (Memref.whole cc0_stg0_0) _ (Memref.whole cc0_scratch0) _ (Memref.whole cc0_scratch1) _
    (Memref.whole cc0_scratch2) _ cc0_scratch3 cc0_scratch4 cc0_scratch5) (fun _ => bodyPost m ρ c)
  unfold bodyPre Φ₀ start
  iintro ⟨⟨⟨⟨%K, Hg⟩, Hcr, Hlev, Hx⟩, H0, H1, H2⟩, Ho, ⟨%d, %f, -, Hout⟩⟩
  unfold Dat.owesAt Pipeline.owesWithin
  icases Ho with ⟨%W, %hW, HO⟩
  iapply (run_body m K c fun _ => bodyPost m ρ c)
  isplitl
  · iapply (begin_intro m K c)
    isplitl [Hg]; · iexact Hg
    isplitl [Hcr]; · iexact Hcr
    isplitl [Hlev]; · iexact Hlev
    isplitl [Hx]; · iexact Hx
    isplitl [H0]; · iexact H0
    isplitl [H1]; · iexact H1
    isplitl [H2]; · iexact H2
    isplitl [Hout]; · iexists f; iexact Hout
    unfold Owing; iexists W; iexact HO
  · iintro HE
    ihave HE' := (end_elim m c) $$ HE
    icases HE' with ⟨HΦ, Hout, HO⟩
    unfold bodyPost Dat.owesAt Pipeline.owesWithin Owing
    icases HO with ⟨%W', HO⟩
    isplitl [HΦ]; · iexact HΦ
    isplitl [HO]
    · iexists W'
      isplitr
      · ipureintro; exact fun _ _ => Or.inl trivial
      iexact HO
    iexists (outG m c)
    isplitr; · ipureintro; rfl
    iexact Hout

end Cert.KernelIdeal.Exch

end
-- ==== Proof.KernelIdeal.Whole.lean ====
/-
# The run of the whole program

The ghost state of the exchange is minted at launch and dealt out: each device keeps its positions, and gets the
tokens of the duties it pays — for the barrier and the landings these are its peer's. Then the program's run.
-/
module

public import proofs.«01_k».proof.Proof.KernelIdeal.Run
public import Idealize.ShloMosaic.Lib.Quiescent
public import Idealize.ShloMosaic.Lib.Pipeline.CollectiveSegs

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Dealing out the ghost state -/

theorem ownSemFacts : Pipeline.OwnSemFacts cfg0.spec osem := by decide

theorem share_eq (c : Dev nD) (w : Fin cfg0.W) : (dats m ρ 0 c).share w = fullShare := by unfold Dat.share; split <;> rfl

def exCells : Finset (GSem nD τ sig) := Finset.univ.map ⟨kcell, kcell_injective⟩
def exToks : Finset (GSem nD τ sig × ℕ × Unit) :=
  Finset.univ.map ⟨fun ci : Dev nD × Ci => (kcell ci, 0, ()), fun _ _ h => kcell_injective (congrArg Prod.fst h)⟩

def u₀ : UU := (initOf (Pipeline.cells cfgs cellOf_inj) (Pipeline.launchToks cfgs cellOf_inj), initOf exCells exToks)

/-- Device `c`'s share of what is minted: its cells' states, positions and marks, and their tokens. -/
def G (c : Dev nD) : sProp 𝕄 :=
  iprop((bigSep Finset.univ fun i : Ci => roundState ER (Rd m) (kcell (c, i)) 0)
    ∗ (bigSep Finset.univ fun i : Ci => iprop(at0 (kcell (c, i)) ∗ reached ER (kcell (c, i)) 0))
    ∗ bigSep Finset.univ fun i : Ci => tok (kcell (c, i)))
/-- What it starts from. -/
def G' (c : Dev nD) : sProp 𝕄 := iprop(∃ K, recs m K ∗ linear c)

theorem fund_exchange : BI.own (ER (initOf exCells exToks)) ⊢ (|==> bigSep Finset.univ (G m) : sProp 𝕄) := by
  have hX (Φ : GSem nD τ sig → sProp 𝕄) :
      bigSep exCells Φ = bigSep Finset.univ fun c : Dev nD => bigSep Finset.univ fun i : Ci => Φ (kcell (c, i)) := by
    unfold exCells; rw [bigSep_map, bigSep_univ_prod]; rfl
  have hT : bigSep exToks (fun x => (dutyTok ER x.1 x.2.1 x.2.2 : sProp 𝕄))
      = bigSep Finset.univ fun c : Dev nD => bigSep Finset.univ fun i : Ci => tok (kcell (c, i)) := by
    unfold exToks; rw [bigSep_map, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

abbrev ownSems (c : Dev nD) : sProp 𝕄 :=
  Pipeline.ownSems0 (Ix := Unit) (Name := ℕ) (U := UU) (Lvl := ℕ) (Val := Elt F) (τ := τ) osem c

/-- The barrier's semaphore is the one that lives outside the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(ownSems (F := F) c ∗ unscopedSems0 c) ⊢ (bigSep Finset.univ fun i : Ci => semVal (kcell (c, i)) 0 : sProp 𝕄) := by
  rw [unscopedSems0_eq, bigSep_univ_sum, bigSep_univ_eq_bigSepL [()] (by decide) (by decide)]
  exact sep_comm.1

theorem core_alloc (c : Dev nD) :
    iprop(ownSems (F := F) c ∗ unscopedSems0 c ∗ G m c)
      ⊢ |={Set.univ}=> iprop((bigSep Finset.univ fun i : Ci => iprop(∃ κ : ℕ, cellInv ER (Rd m) κ (kcell (c, i))))
          ∗ (bigSep Finset.univ fun i : Ci => iprop(at0 (kcell (c, i)) ∗ reached ER (kcell (c, i)) 0))
          ∗ bigSep Finset.univ fun i : Ci => tok (kcell (c, i))) := by
  unfold G
  iintro ⟨Hos, Hus, Hst, Hat, Htok⟩
  ihave Hv := (sems0_eq (F := F) c) $$ [Hos Hus]
  · isplitl [Hos]; · iexact Hos
    iexact Hus
  imod (show iprop((bigSep Finset.univ fun i : Ci => semVal (kcell (c, i)) 0) ∗ bigSep Finset.univ fun i : Ci => roundState ER (Rd m) (kcell (c, i)) 0)
      ⊢ (|={Set.univ}=> bigSep Finset.univ fun i : Ci => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The tokens of the barriers and of the landings go to the other device of the pair. -/
theorem toks_across : (bigSep Finset.univ fun c : Dev nD => bigSep Finset.univ fun i : Ci => (tok (kcell (c, i)) : sProp 𝕄))
    ⊢ bigSep Finset.univ fun c : Dev nD => payToks c := by
  unfold payToks
  simp only [cells_eq, bigSep_sep']
  iintro ⟨HB, HI, HS, HR⟩
  isplitl [HB]
  · iapply (Entails.of_eq (bigSep_univ_equiv pairing (fun c : Dev nD => (tok (barCell c) : sProp 𝕄)))); iexact HB
  isplitl [HI]; · iexact HI
  isplitl [HS]; · iexact HS
  iapply (Entails.of_eq (bigSep_univ_equiv pairing (fun c : Dev nD => (bigSep Finset.univ fun k : Fin 8 => tok (recvCell c k) : sProp 𝕄)))); iexact HR

theorem regroup :
    (bigSep Finset.univ fun c : Dev nD => iprop((bigSep Finset.univ fun i : Ci => iprop(∃ κ : ℕ, cellInv ER (Rd m) κ (kcell (c, i))))
          ∗ (bigSep Finset.univ fun i : Ci => iprop(at0 (kcell (c, i)) ∗ reached ER (kcell (c, i)) 0))
          ∗ bigSep Finset.univ fun i : Ci => tok (kcell (c, i))) : sProp 𝕄)
      ⊢ bigSep Finset.univ (G' m) := by
  simp only [bigSep_sep']
  rw [← bigSep_univ_prod (fun ci : Dev nD × Ci => iprop(∃ κ : ℕ, cellInv ER (Rd m) κ (kcell ci))),
    ← bigSep_univ_prod (fun ci : Dev nD × Ci => (reached ER (kcell ci) 0 : sProp 𝕄))]
  iintro ⟨HI, ⟨Hat, #HR⟩, Htok⟩
  ihave HK := (BI.bigSep_exists_pi Finset.univ (fun (ci : Dev nD × Ci) (κ : ℕ) => (cellInv ER (Rd m) κ (kcell ci) : sProp 𝕄))) $$ HI
  icases HK with ⟨%K, #HI⟩
  ihave Htk := (toks_across (F := F)) $$ Htok
  iapply (bigSep_with_persistent (R := recs m K) (Φ := fun c : Dev nD => linear (F := F) c) (Ψ := G' m) fun c _ => by
    unfold G'; exact exists_intro (Φ := fun K => iprop(recs m K ∗ linear c)) K)
  isplitr
  · unfold recs; isplitl; · iexact HI
    iexact HR
  · unfold linear; simp only [bigSep_sep']
    isplitl [Hat]; · iexact Hat
    iexact Htk

theorem glob : (bigSep Finset.univ fun c => iprop(ownSems (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff (a b : Dev nD) (i j : Ci) : kcell (a, i) = kcell (b, j) ↔ a = b ∧ i = j :=
  ⟨fun h => Prod.mk.inj (kcell_injective h), fun h => by rw [h.1, h.2]⟩

theorem eq_peer_iff (d c : Dev nD) : c = peer d ↔ d = peer c :=
  ⟨fun h => by rw [h, peer_peer], fun h => by rw [h, peer_peer]⟩

theorem owed_recv (d c : Dev nD) (k : Fin 8) : ∀ n, n ≤ 8 →
    owed d n (recvCell c k) () = if d = peer c ∧ 8 - n ≤ k.val then NQ else 0
  | 0, _ => by
    rw [if_neg fun h => by have := k.isLt; omega]; rfl
  | n + 1, hn => by
    unfold owed
    rw [Pi.add_apply, Finsupp.add_apply, owed_recv d c k n (by omega), tallyAt_apply]
    have e : (recvCell c k = recvCell (peer d) ⟨7 - n, by omega⟩ ∧ () = ()) ↔ (d = peer c ∧ k.val = 7 - n) := by
      rw [and_iff_left rfl, ← eq_peer_iff]
      refine (cell_eq_iff c (peer d) (.inr (2, k)) (.inr (2, ⟨7 - n, by omega⟩))).trans (and_congr_right fun _ => ?_)
      rw [Sum.inr.injEq, Prod.mk.injEq, and_iff_right rfl, Fin.ext_iff]
    by_cases hd : d = peer c
    · by_cases hk : k.val = 7 - n
      · rw [if_neg (by omega), if_pos (e.mpr ⟨hd, hk⟩), if_pos ⟨hd, by omega⟩, Nat.zero_add]
      · rw [if_neg (fun h => hk (e.mp h).2), Nat.add_zero]
        exact if_congr (and_congr_right fun _ => by omega) rfl rfl
    · rw [if_neg (fun h => hd h.1), if_neg (fun h => hd (e.mp h).1), if_neg (fun h => hd h.1)]

theorem owed_bar (d c : Dev nD) (n : ℕ) : owed d n (barCell c) () = 0 := by
  by_contra h
  obtain ⟨k, hk⟩ := owed_pos (Nat.pos_of_ne_zero h)
  exact absurd (congrArg Prod.snd hk) (fun h => by cases h)

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  have h : ∀ d : Dev nD, O₀ d (barCell c) () = if d = peer c then 1 else 0 := fun d => by
    unfold O₀
    rw [Pi.add_apply, Finsupp.add_apply, owed_bar, Nat.zero_add, tallyAt_apply]
    refine if_congr ?_ rfl rfl
    rw [and_iff_left rfl, ← eq_peer_iff]
    exact (cell_eq_iff c (peer d) (.inl ()) (.inl ())).trans (and_iff_left rfl)
  rw [Pipeline.launchCredit_owing, Finsupp.single_eq_same, Finset.sum_congr rfl fun d _ => h d,
    Finset.sum_ite_eq' Finset.univ (peer c) fun _ => 1, if_pos (Finset.mem_univ _)]

theorem launch_recv (c : Dev nD) (k : Fin 8) :
    tallyOn (recvCell c k) (launchCredit (Pipeline.owing O₀) 0 (recvCell c k)) = (tallyAt (recvCell c k) () NQ : CellTallies nD τ sig Unit) := by
  unfold tallyAt; refine congrArg _ (Finsupp.ext fun u => ?_); cases u
  have h : ∀ d : Dev nD, O₀ d (recvCell c k) () = if d = peer c then NQ else 0 := fun d => by
    unfold O₀
    rw [Pi.add_apply, Finsupp.add_apply, owed_recv d c k 8 le_rfl,
      tallyAt_ne_cell (fun h => absurd (congrArg Prod.snd h) (fun h => by cases h)), Finsupp.zero_apply, Nat.add_zero]
    exact if_congr (and_iff_left (Nat.zero_le _)) rfl rfl
  rw [Pipeline.launchCredit_owing, Finsupp.single_eq_same, Finset.sum_congr rfl fun d _ => h d,
    Finset.sum_ite_eq' Finset.univ (peer c) fun _ => NQ, if_pos (Finset.mem_univ _)]

theorem creds (c : Dev nD) :
    (Pipeline.launchCred O₀ c : sProp 𝕄)
      ⊢ iprop(cred (tallyAt (barCell c) () 1) ∗ bigSep Finset.univ fun k : Fin 8 => cred (tallyAt (recvCell c k) () NQ)) := by
  have h : (Pipeline.launchCred O₀ c : sProp 𝕄)
      ⊢ bigSep Finset.univ fun i : Ci => cred (tallyOn (kcell (c, i)) (launchCredit (Pipeline.owing O₀) 0 (kcell (c, i)))) := by
    unfold Pipeline.launchCred
    exact (bigSep_subset (Finset.subset_univ (Finset.univ.map ⟨csem, csem_injective⟩))).trans (Entails.of_eq (bigSep_map _))
  iintro H
  ihave H' := (h.trans (Entails.of_eq (cells_eq _))) $$ H
  icases H' with ⟨HB, -, -, HR⟩
  isplitl [HB]
  · iapply (Entails.of_eq (congrArg cred (launch_bar c))); iexact HB
  · iapply (Entails.of_eq (bigSep_congr (s := Finset.univ) fun k _ => congrArg cred (launch_recv c k))); iexact HR

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(rest m c ∗ Pipeline.ownSems0 osem c ∗ Pipeline.scopedRest cfg0.spec c) := by
  rw [show (dats m ρ 0 c).Φ (Fin.last cfg0.N) = Φ₁ m c from rfl, scopedRest0_eq]
  unfold Φ₁ Pipeline.ownSems0
  iintro ⟨Hr, Hz, H0, H1, H2⟩
  isplitl [Hr]; · iexact Hr
  isplitl [Hz]; · iexact Hz
  isplitl [H0]; · iexists (inG m c); iexact H0
  isplitl [H1]; · iexists (qG m c); iexact H1
  iexists (qG m (peer c)); iexact H2

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is left at the end, read off the final state. -/
theorem rest_read (c : Dev nD) (s' : Phys nD τ sig (Elt F)) :
    iprop(rest m c ∗ emp ∗ SI s') ⊢ |={Set.univ}=> iprop(⌜s'.mem.mem ((c : Thread nD τ).loc main_arg0) = xbuf m c
        ∧ ∀ sm : SemLoc sig, sm.isScoped .tc = false → s'.mem.sem ((c.tc : Thread nD τ), sm) = 0⌝ ∗ SI s') := by
  unfold rest
  iintro ⟨⟨Hx, Hz⟩, -, HSI⟩
  ihave %hx := (SI_pointsTo_agree.trans Laws.persistently_pure.2) $$ [HSI Hx]
  · isplitl [HSI]; · iexact HSI
    iexact Hx
  ihave Hz' := (Entails.of_eq (unscopedSems0_eq (F := F) c).symm) $$ Hz
  imod (Pipeline.unscopedSems0_read (X := unscopedSems0 c) (c := c) fupd_intro s') $$ [Hz' HSI] with ⟨%hz, HSI⟩
  · isplitl [Hz']; · iexact Hz'
    iexact HSI
  imodintro
  isplitr
  · ipureintro; exact ⟨funext fun i => hx i (Finset.mem_univ i), hz⟩
  iexact HSI

/-- The result array in the end. -/
theorem out_eq (c : Dev nD) : (dats m ρ 0 c).arrAt (0 : Fin 1) cfg0.N = outG m c := by
  have h : (win0_0.blk (0 : Fin 1)).view.read (Elt F) ((dats m ρ 0 c).arrAt (0 : Fin 1) cfg0.N) = outG m c := by
    rw [show cfg0.N = ((0 : Fin 1) : Fin cfg0.N).val + 1 from rfl, (dats m ρ 0 c).arrAt_succ (0 : Fin 1) (0 : Fin 1),
      show (cfg0.win (0 : Fin 1)).flush (0 : Fin 1) = true from flush0_0 _, if_pos rfl]
    exact View.read_write_univ _ _
  have hz : (fun a => (win0_0.index (0 : Fin 1)) a * main_v1.ty.shape.size a) = fun _ => 0 :=
    funext fun a => by fin_cases a <;> decide
  exact (Memref.read_access_unit_zero (Elt F) main_v1 hz (fun a => by fin_cases a <;> decide) _).symm.trans h

/-- Every device's result, its argument as it was, and every semaphore at zero. -/
def QC : PUnit × MemSt nD τ sig (Elt F) → Prop := fun r =>
  (∀ c : Dev nD, r.2.mem ((c : Thread nD τ).loc main_v1) = outG m c ∧ r.2.mem ((c : Thread nD τ).loc main_arg0) = xbuf m c)
    ∧ r.2.sem = fun _ => 0

set_option maxRecDepth 8000 in
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m ρ) (hout := phi1_exit m ρ)
    (QY := fun c s => s.mem ((c : Thread nD τ).loc main_arg0) = xbuf m c
        ∧ ∀ sm : SemLoc sig, sm.isScoped .tc = false → s.sem ((c.tc : Thread nD τ), sm) = 0)
    (hY := rest_read m)
    (hQ := fun _ h hs => ⟨fun c => ⟨((h c).1 0).trans (out_eq m ρ c), (h c).2.2.1⟩, sem_eq_zero hs fun c => (h c).2.2.2⟩)

end Cert.KernelIdeal.Exch

end
-- ==== Proof.Value.Quant.lean ====
/-
# The quantiser, on one extended real

An entry `v` is coded by the integer nearest `127 / 6 · v`, clipped to `-127 … 127`, and a code `n` stands for
`6 / 127 · n`. This file says so once (`code`, `back`), shows that the kernel's spelling of the two steps and the
reference's spelling of them are these functions at every extended real, and bounds the error on `[-6, 6]`.
-/
module

public import Idealize.ShloMosaic.PureOps.Ideal

@[expose] public section

noncomputable section

namespace Cert.Quant

open Idealize.ShloMosaic

/-! ## The printed constants -/

theorem bits_127 : Ideal.ofBits .f32 0x42FE0000#32 = ((127 : ℝ) : EReal) := by
  simp [Ideal.ofBits, Ideal.ieee, -EReal.coe_mul]; norm_num
theorem bits_neg127 : Ideal.ofBits .f32 0xC2FE0000#32 = ((-127 : ℝ) : EReal) := by
  simp [Ideal.ofBits, Ideal.ieee, -EReal.coe_mul]; norm_num
theorem bits_6 : Ideal.ofBits .f32 0x40C00000#32 = ((6 : ℝ) : EReal) := by
  simp [Ideal.ofBits, Ideal.ieee, -EReal.coe_mul]; norm_num
/-- The bound the last claim prints: `12686260 / 2 ^ 29`, a little above `3 / 127`. -/
theorem bits_bound : Ideal.ofBits .f32 0x3CC193B4#32 = ((12686260 / 536870912 : ℝ) : EReal) := by
  simp [Ideal.ofBits, Ideal.ieee, -EReal.coe_mul]; norm_num

/-! ## Coding -/

/-- The code of `v`: the nearest integer to `127 / 6 · v`, clipped to `-127 … 127`. -/
def code : EReal → ℤ
  | ⊥ => -127
  | ⊤ => 127
  | (r : ℝ) => min 127 (max (-127) (Ideal.roundHalfEven (r * (127 / 6))))

/-- What the code of `v` stands for. -/
def back (v : EReal) : ℝ := (code v : ℝ) * (6 / 127)

theorem code_bot : code ⊥ = -127 := rfl
theorem code_top : code ⊤ = 127 := rfl
theorem code_coe (r : ℝ) : code (r : EReal) = min 127 (max (-127) (Ideal.roundHalfEven (r * (127 / 6)))) := rfl

theorem code_range (v : EReal) : -127 ≤ code v ∧ code v ≤ 127 := by
  induction v using EReal.rec with
  | bot => rw [code_bot]; omega
  | top => rw [code_top]; omega
  | coe r => rw [code_coe]; omega

/-- Scaled, rounded to even and clipped, an extended real is its code. -/
theorem clip_eq (v : EReal) :
    min ((127 : ℝ) : EReal) (max ((-127 : ℝ) : EReal) (Ideal.liftRound Ideal.roundHalfEven (v * ((127 / 6 : ℝ) : EReal))))
      = (((code v : ℤ) : ℝ) : EReal) := by
  have hpos : (0 : EReal) < ((127 / 6 : ℝ) : EReal) := by exact_mod_cast (show (0 : ℝ) < 127 / 6 by norm_num)
  have hle : ((-127 : ℝ) : EReal) ≤ ((127 : ℝ) : EReal) := by exact_mod_cast (show (-127 : ℝ) ≤ 127 by norm_num)
  induction v using EReal.rec with
  | bot =>
    rw [EReal.bot_mul_of_pos hpos, Ideal.liftRound_bot, max_eq_left bot_le, min_eq_right hle, code_bot]
    norm_num
  | top =>
    rw [EReal.top_mul_of_pos hpos, Ideal.liftRound_top, max_eq_right le_top, min_eq_left le_top, code_top]
    norm_num
  | coe r =>
    rw [← EReal.coe_mul, Ideal.liftRound_coe, code_coe, ← EReal.coe_strictMono.monotone.map_max,
      ← EReal.coe_strictMono.monotone.map_min]
    push_cast
    rfl

/-- The quotient by 6 of the product with 127 is the product with `127 / 6`. -/
theorem scale_eq (v : EReal) : Ideal.div (v * ((127 : ℝ) : EReal)) ((6 : ℝ) : EReal) = v * ((127 / 6 : ℝ) : EReal) := by
  rw [Ideal.div_coe (by norm_num), mul_assoc, ← EReal.coe_mul]
  norm_num

/-- The quotient by 127 of the product with 6 is the product with `6 / 127`. -/
theorem unscale_eq (v : EReal) : Ideal.div (v * ((6 : ℝ) : EReal)) ((127 : ℝ) : EReal) = v * ((6 / 127 : ℝ) : EReal) := by
  rw [Ideal.div_coe (by norm_num), mul_assoc, ← EReal.coe_mul]
  norm_num

/-! ## The integer formats -/

/-- A whole number read as a signed integer of `w` bits that hold it. -/
theorem fptosi_int (w : Nat) (n : ℤ) (h0 : -(2 ^ (w - 1) : Nat) ≤ n) (h1 : n ≤ (2 ^ (w - 1) : Nat) - 1) :
    Ideal.fptosi w (((n : ℤ) : ℝ) : EReal) = BitVec.ofInt w n := by
  rw [Ideal.fptosi, Ideal.toIntClamped_coe, Int.floor_intCast, Int.ceil_intCast, ite_self, min_eq_right h1, max_eq_right h0]

theorem fptosi8_code (v : EReal) : Ideal.fptosi 8 (((code v : ℤ) : ℝ) : EReal) = BitVec.ofInt 8 (code v) := by
  have h := code_range v
  exact fptosi_int 8 _ (by norm_num; omega) (by norm_num; omega)

theorem fptosi32_code (v : EReal) : Ideal.fptosi 32 (((code v : ℤ) : ℝ) : EReal) = BitVec.ofInt 32 (code v) := by
  have h := code_range v
  exact fptosi_int 32 _ (by norm_num; omega) (by norm_num; omega)

theorem toInt_code8 (v : EReal) : (BitVec.ofInt 8 (code v)).toInt = code v := by
  have h := code_range v
  rw [BitVec.toInt_ofInt]
  exact Int.bmod_eq_of_le (by norm_num; omega) (by norm_num; omega)

/-- Taken to 32 bits, cut to 8 and widened again, a code is itself. -/
theorem toInt_code32 (v : EReal) : (((BitVec.ofInt 32 (code v)).setWidth 8).signExtend 32).toInt = code v := by
  have h := code_range v
  rw [BitVec.toInt_signExtend_of_le (by norm_num), BitVec.toInt_setWidth, BitVec.toNat_ofInt]
  rw [Int.bmod_def]
  split <;> omega

/-! ## The error -/

/-- Rounding to even moves a real by at most one half. -/
theorem round_near (r : ℝ) : |(Ideal.roundHalfEven r : ℝ) - r| ≤ 1 / 2 := by
  have h0 := Int.floor_le r
  have h1 := Int.lt_floor_add_one r
  unfold Ideal.roundHalfEven
  dsimp only
  rw [abs_le]
  split_ifs <;> push_cast <;> constructor <;> linarith

/-- On `[-6, 6]` the clip changes nothing, and what a code stands for is within `3 / 127` of the entry. -/
theorem back_near (r : ℝ) (h : |r| ≤ 6) : |back (r : EReal) - r| ≤ 3 / 127 := by
  have hr := abs_le.1 h
  have hn := abs_le.1 (round_near (r * (127 / 6)))
  have hu : (Ideal.roundHalfEven (r * (127 / 6)) : ℝ) < 128 := by linarith [hn.2, hr.2]
  have hl : (-128 : ℝ) < (Ideal.roundHalfEven (r * (127 / 6)) : ℝ) := by linarith [hn.1, hr.1]
  have hu' : Ideal.roundHalfEven (r * (127 / 6)) < 128 := by exact_mod_cast hu
  have hl' : -128 < Ideal.roundHalfEven (r * (127 / 6)) := by exact_mod_cast hl
  have hc : code (r : EReal) = Ideal.roundHalfEven (r * (127 / 6)) := by rw [code_coe]; omega
  rw [back, hc, abs_le]
  constructor <;> linarith [hn.1, hn.2]

end Cert.Quant

end
-- ==== Proof.Value.Kernel.lean ====
/-
# The kernel's result, entry by entry

Over extended reals, entry `(r, l)` of device `c`'s result is its own entry in row `r` and column `half c + l`, plus
what the code of its peer's entry at the same place stands for; `half c` is 0 on a device with `y = 0` and 512 on
one with `y = 1`.
-/
module

public import proofs.«01_k».proof.Proof.KernelIdeal.Protocol
public import proofs.«01_k».proof.Proof.Value.Quant

@[expose] public section

noncomputable section

namespace Cert.KernelIdeal.Exch

open Cert.KernelIdeal Cert.KernelIdeal.Gen Cert.Quant
open Idealize.ShloMosaic

/-- The name `q` is `127 / 6`, and the name `dq` is `6 / 127`. -/
theorem named_q : Named.named (F := Ideal) κ "q" (φ := .bf16) 0x41A9#16 = ((127 / 6 : ℝ) : EReal) :=
  IdealRules.named_const.ideal_named_scalar _ _ _ _ rfl
theorem named_dq : Named.named (F := Ideal) κ "dq" (φ := .f32) 0x3D418306#32 = ((6 / 127 : ℝ) : EReal) :=
  IdealRules.named_const.ideal_named_scalar _ _ _ _ rfl

/-- Half of the columns of a chunk, read at an entry. -/
theorem chunk_half (v : Vec Ideal S1x128x1024 .bf16) (o : Nat) (hs : S128x1024.Slices ![0, o] S128x512)
    (r : Fin 128) (l : Fin 512) (hl : o + l.val < 1024) :
    extractStridedSlice S128x512 ![0, o] (shapeCast S128x1024 v shapeCasts_S1x128x1024_S128x1024) hs
        (ix2 (n0 := 128) (n1 := 512) r l)
      = v (ix3 (n0 := 1) (n1 := 128) (n2 := 1024) 0 r ⟨o + l.val, hl⟩) := by
  rw [extractStridedSlice_apply _ _ hs _ (ix2 (n0 := 128) (n1 := 1024) r ⟨o + l.val, hl⟩)
    (fun a => by fin_cases a <;> simp [ix2])]
  refine shapeCast_apply _ _ _ _ ?_
  rw [Shape.rowMajor_val_two, Shape.rowMajor_val_three]
  simp [ix2, ix3]

/-- The quantiser, read at an entry, whichever half it is given. -/
theorem quant_entry (h : FVec Ideal S128x512 .bf16) (i : S128x512.Idx) :
    fptosi 8 (minimumf (broadcast S128x512 (Scalar.truncf .bf16 bitsLt_bf16_f32 (Scalar.ofBits .f32 0x42FE0000#32)))
      (maximumf (broadcast S128x512 (Scalar.truncf .bf16 bitsLt_bf16_f32 (Scalar.ofBits .f32 0xC2FE0000#32)))
        (roundeven (mulf h (broadcast S128x512 (Named.named (F := Ideal) κ "q" (φ := .bf16) 0x41A9#16)))))) i
      = BitVec.ofInt 8 (code (h i)) := by
  show Ideal.fptosi 8 (min (Ideal.ofBits .f32 0x42FE0000#32) (max (Ideal.ofBits .f32 0xC2FE0000#32)
    (Ideal.liftRound Ideal.roundHalfEven (h i * Named.named (F := Ideal) κ "q" (φ := .bf16) 0x41A9#16)))) = _
  rw [named_q, bits_127, bits_neg127, clip_eq, fptosi8_code]

/-- The codes are stored with a leading axis of one. -/
theorem codes_cast (w : IVec S128x512 8) (r : Fin 128) (l : Fin 512) :
    shapeCast S1x128x512 w shapeCasts_S128x512_S1x128x512 (ix3 (n0 := 1) (n1 := 128) (n2 := 512) 0 r l)
      = w (ix2 (n0 := 128) (n1 := 512) r l) := by
  refine shapeCast_apply _ _ _ _ ?_
  rw [Shape.rowMajor_val_two, Shape.rowMajor_val_three]
  simp [ix2, ix3]

theorem pay1_entry (v : Vec Ideal S1x128x1024 .bf16) (r : Fin 128) (l : Fin 512) (hl : 512 + l.val < 1024) :
    k0_pay1 (F := Ideal) v (ix3 (n0 := 1) (n1 := 128) (n2 := 512) 0 r l)
      = BitVec.ofInt 8 (code (v (ix3 (n0 := 1) (n1 := 128) (n2 := 1024) 0 r ⟨512 + l.val, hl⟩))) := by
  unfold k0_pay1
  rw [codes_cast]
  refine (quant_entry _ _).trans ?_
  rw [chunk_half v 512 _ r l hl]

theorem pay2_entry (v : Vec Ideal S1x128x1024 .bf16) (r : Fin 128) (l : Fin 512) (hl : 0 + l.val < 1024) :
    k0_pay2 (F := Ideal) v (ix3 (n0 := 1) (n1 := 128) (n2 := 512) 0 r l)
      = BitVec.ofInt 8 (code (v (ix3 (n0 := 1) (n1 := 128) (n2 := 1024) 0 r ⟨0 + l.val, hl⟩))) := by
  unfold k0_pay2
  rw [codes_cast]
  refine (quant_entry _ _).trans ?_
  rw [chunk_half v 0 _ r l hl]

/-- A received code, read at an entry: what it stands for. -/
theorem pay24_entry (w : Vec Ideal S1x128x512 .i8) (v : EReal) (r : Fin 128) (l : Fin 512)
    (hw : w (ix3 (n0 := 1) (n1 := 128) (n2 := 512) 0 r l) = BitVec.ofInt 8 (code v)) :
    k0_pay24 (F := Ideal) w (ix2 (n0 := 128) (n1 := 512) r l) = ((back v : ℝ) : EReal) := by
  have hc : shapeCast S128x512 w shapeCasts_S1x128x512_S128x512 (ix2 (n0 := 128) (n1 := 512) r l)
      = BitVec.ofInt 8 (code v) := by
    rw [← hw]
    refine shapeCast_apply _ _ _ _ ?_
    rw [Shape.rowMajor_val_two, Shape.rowMajor_val_three]
    simp [ix2, ix3]
  unfold k0_pay24
  show (((shapeCast S128x512 w shapeCasts_S1x128x512_S128x512 (ix2 (n0 := 128) (n1 := 512) r l)).toInt : ℝ) : EReal)
    * Named.named (F := Ideal) κ "dq" (φ := .f32) 0x3D418306#32 = _
  rw [hc, toInt_code8, named_dq, ← EReal.coe_mul, back]

theorem pay25_entry (w : Vec Ideal S1x128x512 .i8) (v : Vec Ideal S1x128x1024 .bf16) (u : EReal) (r : Fin 128) (l : Fin 512)
    (hl : 0 + l.val < 1024) (hw : w (ix3 (n0 := 1) (n1 := 128) (n2 := 512) 0 r l) = BitVec.ofInt 8 (code u)) :
    k0_pay25 (F := Ideal) w v (ix2 (n0 := 128) (n1 := 512) r l)
      = v (ix3 (n0 := 1) (n1 := 128) (n2 := 1024) 0 r ⟨0 + l.val, hl⟩) + ((back u : ℝ) : EReal) := by
  rw [← chunk_half v 0 slices_S128x1024_o0_0_S128x512 r l hl, ← pay24_entry w u r l hw]
  rfl

theorem pay26_entry (w : Vec Ideal S1x128x512 .i8) (v : Vec Ideal S1x128x1024 .bf16) (u : EReal) (r : Fin 128) (l : Fin 512)
    (hl : 512 + l.val < 1024) (hw : w (ix3 (n0 := 1) (n1 := 128) (n2 := 512) 0 r l) = BitVec.ofInt 8 (code u)) :
    k0_pay26 (F := Ideal) w v (ix2 (n0 := 128) (n1 := 512) r l)
      = v (ix3 (n0 := 1) (n1 := 128) (n2 := 1024) 0 r ⟨512 + l.val, hl⟩) + ((back u : ℝ) : EReal) := by
  rw [← chunk_half v 512 slices_S128x1024_o0_512_S128x512 r l hl, ← pay24_entry w u r l hw]
  rfl

/-! ## The whole result -/

/-- Where a device's half of the columns begins. -/
def half (c : Dev nD) : Nat := 512 * ((c.val / 4) % 2)

theorem half_lt (c : Dev nD) (l : Fin 512) : half c + l.val < 1024 := by
  have := l.isLt; unfold half; omega

variable (m : (ℓ : Loc nD τ sig) → Buf (Elt Ideal) ℓ)

/-- A device's entry at a row and a column. -/
def entry (c : Dev nD) (r l : Fin 1024) : EReal := xbuf m c (ix3 (n0 := 1) (n1 := 1024) (n2 := 1024) 0 r l)

theorem xc_entry (c : Dev nD) (k : Fin 8) (r : Fin 128) (l : Fin 1024) (R : Fin 1024) (hR : R.val = 128 * k.val + r.val) :
    xc m c k (ix3 (n0 := 1) (n1 := 128) (n2 := 1024) 0 r l) = entry m c R l := by
  unfold xc entry
  congr 1
  funext a
  refine Fin.ext ?_
  rw [ValueKit.rect_emb_unit_val]
  fin_cases a <;> simp [ix3, hR]

theorem outG_entry (c : Dev nD) (r : Fin 1024) (l : Fin 512) :
    outG m c (ix2 (n0 := 1024) (n1 := 512) r l)
      = entry m c r ⟨half c + l.val, half_lt c l⟩ + ((back (entry m (peer c) r ⟨half c + l.val, half_lt c l⟩) : ℝ) : EReal) := by
  have hr := r.isLt
  have hl := l.isLt
  have hR : r.val = 128 * (⟨r.val / 128, by omega⟩ : Fin 8).val + (⟨r.val % 128, Nat.mod_lt _ (by decide)⟩ : Fin 128).val := by
    show r.val = 128 * (r.val / 128) + r.val % 128; omega
  show oc m c ⟨r.val / 128, _⟩ (ix2 (n0 := 128) (n1 := 512) ⟨r.val % 128, _⟩ l) = _
  by_cases hc : Low c
  · have h0 : half c = 0 := by unfold half; unfold Low at hc; omega
    have hp : ¬ Low (peer c) := fun h => (low_peer c).1 h hc
    unfold oc
    rw [if_pos hc, pay25_entry _ _ (entry m (peer c) r ⟨half c + l.val, half_lt c l⟩) _ l (by omega), xc_entry m c _ _ _ r hR]
    · simp only [h0]
    · unfold qc
      rw [if_neg hp, pay2_entry _ _ l (by omega), xc_entry m _ _ _ _ r hR]
      simp only [h0]
  · have h0 : half c = 512 := by unfold half; unfold Low at hc; omega
    have hp : Low (peer c) := (low_peer c).2 hc
    unfold oc
    rw [if_neg hc, pay26_entry _ _ (entry m (peer c) r ⟨half c + l.val, half_lt c l⟩) _ l (by omega), xc_entry m c _ _ _ r hR]
    · simp only [h0]
    · unfold qc
      rw [if_pos hp, pay1_entry _ _ l (by omega), xc_entry m _ _ _ _ r hR]
      simp only [h0]

end Cert.KernelIdeal.Exch

end
-- ==== Proof.Value.Reference.lean ====
/-
# The reference's result, entry by entry

Over extended reals, entry `(r, l)` of the reference's result is `x[0, r, l]` plus what the code of `x[1, r, l]` stands
for in the left half of the columns, and `x[1, r, l]` plus what the code of `x[0, r, l]` stands for in the right half.
It is `plain x`, below; where both entries lie in `[-6, 6]`, it is within `3 / 127` of `x[0, r, l] + x[1, r, l]`.
-/
module

public import proofs.«01_k».proof.Proof.Gen.ReferenceIdeal.Run
public import Idealize.ShloMosaic.Lib.Pipeline.Value
public import Idealize.ShloMosaic.Lib.Pointwise.Index
public import proofs.«01_k».proof.Proof.Value.Quant

@[expose] public section

noncomputable section

namespace Cert.ReferenceIdeal.Plain

open Cert.ReferenceIdeal Cert.ReferenceIdeal.Gen Cert.Quant
open Idealize.ShloMosaic Idealize.ShloMosaic.TcCoe Idealize.SL.Sem

/-- An index of the argument. -/
abbrev at3 (y : Fin 2) (r l : Fin 1024) : S2x1024x1024.Idx := ix3 (n0 := 2) (n1 := 1024) (n2 := 1024) y r l

/-- The result, entry by entry. -/
def plain (x : FVec Ideal S2x1024x1024 .bf16) : FVec Ideal S1024x1024 .bf16 := fun i =>
  if (i 1).val < 512 then x (at3 0 (i 0) (i 1)) + ((back (x (at3 1 (i 0) (i 1))) : ℝ) : EReal)
  else x (at3 1 (i 0) (i 1)) + ((back (x (at3 0 (i 0) (i 1))) : ℝ) : EReal)

/-- Every entry, coded and decoded as the reference writes it. -/
def decoded (x : FVec Ideal S2x1024x1024 .bf16) : FVec Ideal S2x1024x1024 .f32 :=
  Host.divf (mulf (sitofp .f32 (extsi 32 (trunci 8 (fptosi 32 (minimumf (broadcastInDim S2x1024x1024 ![] bcast_S_S2x1024x1024 (id (constant S_ .f32 0x42FE0000#32))) (maximumf (broadcastInDim S2x1024x1024 ![] bcast_S_S2x1024x1024 (id (constant S_ .f32 0xC2FE0000#32))) (Host.roundeven (Host.divf (mulf (extf .f32 x bitsLt_bf16_f32) (broadcastInDim S2x1024x1024 ![] bcast_S_S2x1024x1024 (constant S_ .f32 0x42FE0000#32))) (broadcastInDim S2x1024x1024 ![] bcast_S_S2x1024x1024 (constant S_ .f32 0x40C00000#32))))))) natLt_8_32) natLt_8_32)) (broadcastInDim S2x1024x1024 ![] bcast_S_S2x1024x1024 (constant S_ .f32 0x40C00000#32))) (broadcastInDim S2x1024x1024 ![] bcast_S_S2x1024x1024 (constant S_ .f32 0x42FE0000#32))

theorem decoded_entry (x : FVec Ideal S2x1024x1024 .bf16) (i : S2x1024x1024.Idx) :
    decoded x i = ((back (x i) : ℝ) : EReal) := by
  show Ideal.div (((((Ideal.fptosi 32 (min (Ideal.ofBits .f32 0x42FE0000#32) (max (Ideal.ofBits .f32 0xC2FE0000#32)
    (Ideal.liftRound Ideal.roundHalfEven (Ideal.div (x i * Ideal.ofBits .f32 0x42FE0000#32) (Ideal.ofBits .f32 0x40C00000#32)))))).setWidth
      8).signExtend 32).toInt : ℝ) * Ideal.ofBits .f32 0x40C00000#32) (Ideal.ofBits .f32 0x42FE0000#32) = _
  rw [bits_127, bits_neg127, bits_6, scale_eq, clip_eq, fptosi32_code, toInt_code32, unscale_eq, ← EReal.coe_mul, back]

/-- Half of the columns of one part, read at an entry. -/
theorem half_entry (w : S2x1024x1024.Idx → EReal) (y : Fin 2) (o : Nat) (hs : S2x1024x1024.Slices ![y.val, 0, o] S1x1024x512)
    (r : Fin 1024) (l : Fin 512) (L : Fin 1024) (hL : L.val = o + l.val) :
    shapeCast S1024x512 (extractStridedSlice S1x1024x512 ![y.val, 0, o] w hs) shapeCasts_S1x1024x512_S1024x512
        (ix2 (n0 := 1024) (n1 := 512) r l) = w (at3 y r L) := by
  rw [shapeCast_apply _ _ _ (ix3 (n0 := 1) (n1 := 1024) (n2 := 512) 0 r l)
    (by rw [Shape.rowMajor_val_two, Shape.rowMajor_val_three]; simp [ix2, ix3])]
  exact extractStridedSlice_apply _ _ hs _ _ (fun a => by fin_cases a <;> simp [ix3, hL])

/-- The two halves side by side, read at an entry. -/
theorem sides_entry (a b : S1024x512.Idx → EReal) (i : S1024x1024.Idx) :
    concatenate S1024x1024 1 [⟨S1024x512, a⟩, ⟨S1024x512, b⟩] concatenates_S1024x512_S1024x512_S1024x1024_d1 i
      = if h : (i 1).val < 512 then a (ix2 (n0 := 1024) (n1 := 512) (i 0) ⟨(i 1).val, h⟩)
        else b (ix2 (n0 := 1024) (n1 := 512) (i 0) ⟨(i 1).val - 512, by have : (i 1).val < 1024 := (i 1).isLt; omega⟩) := by
  split
  · next h =>
    exact concatenate_pair_apply_left 1 a b _ i rfl _ (fun c => by fin_cases c <;> rfl)
  · next h =>
    refine concatenate_pair_apply_right 1 a b _ i rfl rfl _ (fun c hc => ?_) ?_
    · fin_cases c
      · rfl
      · exact absurd rfl hc
    · show (i 1).val - 512 + 512 = (i 1).val
      omega

theorem plain_eq (x : FVec Ideal S2x1024x1024 .bf16) :
    (truncf .bf16 (concatenate S1024x1024 1
      [⟨S1024x512, (addf (shapeCast _ (extractStridedSlice S1x1024x512 ![0, 0, 0] (extf .f32 x bitsLt_bf16_f32) slices_S2x1024x1024_S1x1024x512_0_0_0) shapeCasts_S1x1024x512_S1024x512)
          (shapeCast _ (extractStridedSlice S1x1024x512 ![1, 0, 0] (decoded x) slices_S2x1024x1024_S1x1024x512_1_0_0) shapeCasts_S1x1024x512_S1024x512) : FVec Ideal S1024x512 .f32)⟩,
       ⟨S1024x512, (addf (shapeCast _ (extractStridedSlice S1x1024x512 ![1, 0, 512] (extf .f32 x bitsLt_bf16_f32) slices_S2x1024x1024_S1x1024x512_1_0_512) shapeCasts_S1x1024x512_S1024x512)
          (shapeCast _ (extractStridedSlice S1x1024x512 ![0, 0, 512] (decoded x) slices_S2x1024x1024_S1x1024x512_0_0_512) shapeCasts_S1x1024x512_S1024x512) : FVec Ideal S1024x512 .f32)⟩]
      concatenates_S1024x512_S1024x512_S1024x1024_d1 : FVec Ideal S1024x1024 .f32) bitsLt_bf16_f32 : FVec Ideal S1024x1024 .bf16) = plain x := by
  funext i
  have hi : (i 1).val < 1024 := (i 1).isLt
  refine (sides_entry _ _ i).trans ?_
  unfold plain
  split
  · next h =>
    exact congrArg₂ (fun u v : EReal => u + v) (half_entry _ 0 0 _ _ _ (i 1) (by show (i 1).val = 0 + (i 1).val; omega))
      ((half_entry _ 1 0 _ _ _ (i 1) (by show (i 1).val = 0 + (i 1).val; omega)).trans (decoded_entry x _))
  · next h =>
    exact congrArg₂ (fun u v : EReal => u + v)
      (half_entry _ 1 512 _ _ _ (i 1) (by show (i 1).val = 512 + ((i 1).val - 512); omega))
      ((half_entry _ 0 512 _ _ _ (i 1) (by show (i 1).val = 512 + ((i 1).val - 512); omega)).trans (decoded_entry x _))

/-- The reference ends with `plain` of its argument, and the argument as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = plain (m ((c.tc : Thread nD τ).loc main_arg0))
        ∧ r.2.mem ((c.tc : Thread nD τ).loc main_arg0) = m ((c.tc : Thread nD τ).loc main_arg0) :=
  (θ_run _ _ _).mono (fun _ h c => ⟨(h c).1.trans (plain_eq _), (h c).2⟩) (Value.run (F := Ideal) m ρ)

/-! ## How far from the sum -/

/-- An entry and what its partner's code stands for: near the sum of the two, or one of them exceeds 6. -/
theorem near (u v : EReal) (hu : max u (-u) ≤ ((6 : ℝ) : EReal)) (hv : max v (-v) ≤ ((6 : ℝ) : EReal)) :
    max ((u + ((back v : ℝ) : EReal)) - (u + v)) (-((u + ((back v : ℝ) : EReal)) - (u + v)))
      ≤ ((12686260 / 536870912 : ℝ) : EReal) := by
  induction u using EReal.rec with
  | bot => exact absurd hu (by simp)
  | top => exact absurd hu (by simp)
  | coe u =>
    induction v using EReal.rec with
    | bot => exact absurd hv (by simp)
    | top => exact absurd hv (by simp)
    | coe v =>
      have hv' : |v| ≤ 6 := by
        rw [← EReal.coe_neg, ← EReal.coe_strictMono.monotone.map_max, EReal.coe_le_coe_iff] at hv
        exact hv
      have hn := abs_le.1 (back_near v hv')
      rw [← EReal.coe_add, ← EReal.coe_add, ← EReal.coe_sub, ← EReal.coe_neg, ← EReal.coe_strictMono.monotone.map_max,
        EReal.coe_le_coe_iff]
      have hb : (3 / 127 : ℝ) ≤ 12686260 / 536870912 := by norm_num
      refine max_le ?_ ?_ <;> linarith [hn.1, hn.2]

end Cert.ReferenceIdeal.Plain

end
-- ==== Proof.Value.Claims.lean ====
/-
# The value claims

`algebraic`: over extended reals, each device's result is its block of the reference's result. `near_sum`: where both
parts lie in `[-6, 6]`, the reference's result is within 0.02363 of the exact sum.
-/
module

public import proofs.«01_k».proof.Defs
public import proofs.«01_k».proof.Proof.KernelIdeal.Whole
public import proofs.«01_k».proof.Proof.Value.Kernel
public import proofs.«01_k».proof.Proof.Value.Reference

@[expose] public section

noncomputable section

namespace Cert.Proof

open Idealize.ShloMosaic Idealize.ShloMosaic.TcCoe Idealize.SL.Sem
open Cert.KernelIdeal.Exch (entry half half_lt outG outG_entry peer)
open Cert.ReferenceIdeal.Plain (plain at3)
open Cert.Quant

attribute [local instance] Cert.KernelIdeal.Gen.facts Cert.ReferenceIdeal.Gen.facts

/-! ## Which block a device holds -/

abbrev argBlock (c : Dev Cert.KernelIdeal.nD) := Layout.meshBlock (r := 3) [2, 2, 4] ![[1], [], []] c
abbrev resBlock (c : Dev Cert.KernelIdeal.nD) := Layout.meshBlock (r := 2) [2, 2, 4] ![[], [1]] c

theorem argBlock_val (c : Dev Cert.KernelIdeal.nD) :
    (argBlock c 0).val = (c.val / 4) % 2 ∧ (argBlock c 1).val = 0 ∧ (argBlock c 2).val = 0 := by
  revert c; decide
theorem resBlock_val (c : Dev Cert.KernelIdeal.nD) : (resBlock c 0).val = 0 ∧ (resBlock c 1).val = (c.val / 4) % 2 := by
  revert c; decide
theorem peer_val (c : Dev Cert.KernelIdeal.nD) : ((peer c).val / 4) % 2 = 1 - (c.val / 4) % 2 := by
  revert c; decide

/-- A device's entry, in the whole argument: its part's entry at the same place. -/
theorem block_entry (x : FVec Ideal Cert.ReferenceIdeal.S2x1024x1024 .bf16) (c : Dev Cert.KernelIdeal.nD) (y : Fin 2)
    (hy : (c.val / 4) % 2 = y.val) (r l : Fin 1024) :
    (Layout.blockN ⟨3, ![1, 1024, 1024]⟩ ⟨3, ![2, 1024, 1024]⟩ (argBlock c) x : _ → EReal)
      (ix3 (n0 := 1) (n1 := 1024) (n2 := 1024) 0 r l) = x (at3 y r l) := by
  have hb := argBlock_val c
  rw [Layout.blockN_apply]
  congr 1
  funext a
  refine Fin.ext ?_
  rw [Layout.TilesN.idx_val]
  fin_cases a
  · show (argBlock c 0).val * 1 + 0 = y.val; omega
  · show (argBlock c 1).val * 1024 + r.val = r.val; omega
  · show (argBlock c 2).val * 1024 + l.val = l.val; omega

/-- A device's block of the result, at an entry. -/
theorem block_result (v : FVec Ideal Cert.ReferenceIdeal.S1024x1024 .bf16) (c : Dev Cert.KernelIdeal.nD) (r : Fin 1024) (l : Fin 512) :
    (Layout.blockN ⟨2, ![1024, 512]⟩ ⟨2, ![1024, 1024]⟩ (resBlock c) v : _ → EReal) (ix2 (n0 := 1024) (n1 := 512) r l)
      = v (ix2 (n0 := 1024) (n1 := 1024) r ⟨half c + l.val, half_lt c l⟩) := by
  have hb := resBlock_val c
  rw [Layout.blockN_apply]
  congr 1
  funext a
  refine Fin.ext ?_
  rw [Layout.TilesN.idx_val]
  fin_cases a
  · show (resBlock c 0).val * 1024 + r.val = r.val; omega
  · show (resBlock c 1).val * 512 + l.val = half c + l.val; unfold half; omega

/-- The two results are one. -/
theorem result_eq (m : (ℓ : Loc Cert.KernelIdeal.nD Cert.KernelIdeal.τ Cert.KernelIdeal.sig) → Buf (Elt Ideal) ℓ)
    (x : FVec Ideal Cert.ReferenceIdeal.S2x1024x1024 .bf16)
    (hx : ∀ c : Dev Cert.KernelIdeal.nD, m ((c.tc : Thread Cert.KernelIdeal.nD Cert.KernelIdeal.τ).loc Cert.KernelIdeal.main_arg0)
      = Layout.blockN ⟨3, ![1, 1024, 1024]⟩ ⟨3, ![2, 1024, 1024]⟩ (argBlock c) x) (c : Dev Cert.KernelIdeal.nD) :
    outG m c = Layout.blockN ⟨2, ![1024, 512]⟩ ⟨2, ![1024, 1024]⟩ (resBlock c) (plain x) := by
  have hent : ∀ (d : Dev Cert.KernelIdeal.nD) (y : Fin 2), (d.val / 4) % 2 = y.val → ∀ r l, entry m d r l = x (at3 y r l) :=
    fun d y hy r l => (congrFun (hx d) _).trans (block_entry x d y hy r l)
  have hp := peer_val c
  funext i
  obtain ⟨r, l, rfl⟩ : ∃ (r : Fin 1024) (l : Fin 512), i = ix2 (n0 := 1024) (n1 := 512) r l :=
    ⟨i 0, i 1, funext fun a => by fin_cases a <;> rfl⟩
  rw [outG_entry, block_result]
  unfold plain
  have hl := l.isLt
  by_cases hc : (c.val / 4) % 2 = 0
  · rw [hent c 0 hc, hent (peer c) 1 (by rw [hp, hc]; rfl), if_pos (by show half c + l.val < 512; unfold half; omega)]
    rfl
  · have h1 : (c.val / 4) % 2 = 1 := by omega
    rw [hent c 1 h1, hent (peer c) 0 (by rw [hp, h1]; rfl), if_neg (by show ¬ half c + l.val < 512; unfold half; omega)]
    rfl

theorem algebraic : Cert.algebraic_KernelIdeal_ReferenceIdeal := by
  intro m g m' g' _ hagree
  refine ⟨plain (m' (((0 : Dev Cert.ReferenceIdeal.nD).tc : Thread Cert.ReferenceIdeal.nD Cert.ReferenceIdeal.τ).loc Cert.ReferenceIdeal.main_arg0)), ?_, ?_⟩
  · exact (θ_run _ _ _).mono (fun _ h c => ⟨(h.1 c).1.trans (result_eq m _ hagree c), (h.1 c).2⟩)
      (Cert.KernelIdeal.Exch.run_main (F := Ideal) m g)
  · exact (θ_run _ _ _).mono (fun _ h => h 0) (Cert.ReferenceIdeal.Plain.run m' g')

/-! ## Near the sum -/

/-- The side conditions the predicate states. -/
theorem post_facts : Cert.Post_near_sum.Facts where
  bitsLt_bf16_f32 := by decide
  slices_S2x1024x1024_S1x1024x1024_0_0_0 := by decide
  shapeCasts_S1x1024x1024_S1024x1024 := by decide
  bcast_S_S1024x1024 := by decide
  slices_S2x1024x1024_S1x1024x1024_1_0_0 := by decide

attribute [local instance] post_facts

/-- One part of the argument, read at an entry. -/
theorem part_entry (w : Cert.Post_near_sum.S2x1024x1024.Idx → EReal) (y : Fin 2)
    (hs : Cert.Post_near_sum.S2x1024x1024.Slices ![y.val, 0, 0] Cert.Post_near_sum.S1x1024x1024)
    (i : Cert.Post_near_sum.S1024x1024.Idx) :
    shapeCast Cert.Post_near_sum.S1024x1024 (extractStridedSlice Cert.Post_near_sum.S1x1024x1024 ![y.val, 0, 0] w hs)
      post_facts.shapeCasts_S1x1024x1024_S1024x1024 i = w (at3 y (i 0) (i 1)) := by
  rw [shapeCast_apply _ _ _ (ix3 (n0 := 1) (n1 := 1024) (n2 := 1024) 0 (i 0) (i 1))
    (by rw [Shape.rowMajor_val_two, Shape.rowMajor_val_three]; simp [ix3])]
  exact extractStridedSlice_apply _ _ hs _ _ (fun a => by fin_cases a <;> simp [at3, ix3])

/-- The predicate, at one entry. -/
theorem near_bit (u v s : EReal)
    (h : max u (-u) ≤ ((6 : ℝ) : EReal) → max v (-v) ≤ ((6 : ℝ) : EReal) →
      max (s - (u + v)) (-(s - (u + v))) ≤ ((12686260 / 536870912 : ℝ) : EReal)) :
    IntOp.ori (IntOp.ori (Ideal.cmp .ogt (max u (-u)) ((6 : ℝ) : EReal)) (Ideal.cmp .ogt (max v (-v)) ((6 : ℝ) : EReal)))
      (Ideal.cmp .ole (max (s - (u + v)) (-(s - (u + v)))) ((12686260 / 536870912 : ℝ) : EReal)) = 1#1 := by
  have key : ∀ a b d : Bool, (a = true ∨ b = true ∨ d = true) →
      IntOp.ori (IntOp.ori (BitVec.ofBool a) (BitVec.ofBool b)) (BitVec.ofBool d) = 1#1 := by decide
  refine key _ _ _ ?_
  by_cases hu : ((6 : ℝ) : EReal) < max u (-u)
  · exact .inl (decide_eq_true hu)
  · by_cases hv : ((6 : ℝ) : EReal) < max v (-v)
    · exact .inr (.inl (decide_eq_true hv))
    · exact .inr (.inr (decide_eq_true (h (not_lt.1 hu) (not_lt.1 hv))))

theorem near_ones (x : FVec Ideal Cert.ReferenceIdeal.S2x1024x1024 .bf16) :
    Cert.Post_near_sum.fn (F := Ideal) x (plain x) = fun _ => 1#1 := by
  funext i
  have h0 := part_entry x 0 post_facts.slices_S2x1024x1024_S1x1024x1024_0_0_0 i
  have h1 := part_entry x 1 post_facts.slices_S2x1024x1024_S1x1024x1024_1_0_0 i
  have hn := near_bit (x (at3 0 (i 0) (i 1))) (x (at3 1 (i 0) (i 1))) (plain x i) (fun hu hv => by
    unfold plain
    split
    · exact Cert.ReferenceIdeal.Plain.near _ _ hu hv
    · rw [add_comm (x (at3 0 (i 0) (i 1))) (x (at3 1 (i 0) (i 1)))]
      exact Cert.ReferenceIdeal.Plain.near _ _ hv hu)
  rw [← h0, ← h1, ← bits_6, ← bits_bound] at hn
  exact hn

theorem holds : Cert.holds_ReferenceIdeal_near_sum := by
  intro m g _
  refine (θ_run _ _ _).mono (fun r h c => ⟨(h c).2, ?_⟩) (Cert.ReferenceIdeal.Plain.run m g)
  rw [(h c).1]
  exact near_ones _

end Cert.Proof

end
-- ==== Proof.lean ====
/-
# The claims

Each claim's proof lies in a module of its own; they are put together here.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Whole
public import proofs.«01_k».proof.Proof.KernelIdeal.Whole
public import proofs.«01_k».proof.Proof.Value.Claims
public import Idealize.ShloMosaic.Lib.Quiescent

@[expose] public section

noncomputable section

namespace Cert.Proof

open Idealize.ShloMosaic Idealize.SL.Sem

/-! ## Every run ends, with the argument as it was and every semaphore back at zero -/

theorem frame_kernel : Cert.quiescent_Kernel (hKernel := Cert.Kernel.Gen.facts) := fun m g _ =>
  (θ_run _ _ _).mono (fun _ h => ⟨fun c => (h.1 c).2, h.2⟩) (Cert.Kernel.Exch.run_main (F := Bits) m g)

theorem frame_kernel_ideal : Cert.quiescent_KernelIdeal (hKernelIdeal := Cert.KernelIdeal.Gen.facts) := fun m g _ =>
  (θ_run _ _ _).mono (fun _ h => ⟨fun c => (h.1 c).2, h.2⟩) (Cert.KernelIdeal.Exch.run_main (F := Ideal) m g)

theorem frame_reference : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Plain.run m g)

/-! ## The named constants -/

theorem preserves : Cert.preserves_Kernel_KernelIdeal :=
  ⟨IdealRules.named_const.statement _ _ _ _ _ rfl, IdealRules.named_const.statement _ _ _ _ _ rfl⟩

theorem claim : Cert.Claim :=
  ⟨Cert.Kernel.Gen.facts, Cert.KernelIdeal.Gen.facts, Cert.ReferenceIdeal.Gen.facts, post_facts,
    frame_kernel, frame_kernel_ideal, frame_reference, preserves, algebraic, holds⟩

end Cert.Proof

end
